-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x3584 : Shape := ⟨3, ![12, 128, 3584]⟩
abbrev S18944x112x2 : Shape := ⟨3, ![18944, 112, 2]⟩
abbrev S18944x14 : Shape := ⟨2, ![18944, 14]⟩
abbrev S256x8 : Shape := ⟨2, ![256, 8]⟩
abbrev S1536x3584 : Shape := ⟨2, ![1536, 3584]⟩
abbrev S112x2x18944 : Shape := ⟨3, ![112, 2, 18944]⟩
abbrev S14x18944 : Shape := ⟨2, ![14, 18944]⟩
abbrev S8x256 : Shape := ⟨2, ![8, 256]⟩
abbrev S1536x18944 : Shape := ⟨2, ![1536, 18944]⟩
abbrev S112x2x256 : Shape := ⟨3, ![112, 2, 256]⟩
abbrev S14x256 : Shape := ⟨2, ![14, 256]⟩
abbrev S1536x256 : Shape := ⟨2, ![1536, 256]⟩
abbrev S3x8x128 : Shape := ⟨3, ![3, 8, 128]⟩
abbrev S14x1x256 : Shape := ⟨3, ![14, 1, 256]⟩
abbrev S3584x256 : Shape := ⟨2, ![3584, 256]⟩
abbrev S1x256 : Shape := ⟨2, ![1, 256]⟩
abbrev S8x128 : Shape := ⟨2, ![8, 128]⟩
abbrev S1x8x128 : Shape := ⟨3, ![1, 8, 128]⟩
abbrev S1x1x256 : Shape := ⟨3, ![1, 1, 256]⟩
abbrev S1x1x128 : Shape := ⟨3, ![1, 1, 128]⟩
abbrev S1x128 : Shape := ⟨2, ![1, 128]⟩
abbrev S8x128x1 : Shape := ⟨3, ![8, 128, 1]⟩
abbrev S16x128 : Shape := ⟨2, ![16, 128]⟩
abbrev S12x128x18944 : Shape := ⟨3, ![12, 128, 18944]⟩

abbrev nBuf : Space → Nat
  | .hbm => 16
  | .vmem => 16
  | .smem => 0
  | _ => 0

abbrev bufTy : (tb : Table) → Fin (tcTables nBuf tb) → BufTy
  | .hbm, ⟨0, _⟩ => ⟨S12x128x3584, .bf16⟩
  | .hbm, ⟨1, _⟩ => ⟨S18944x112x2, .i32⟩
  | .hbm, ⟨2, _⟩ => ⟨S18944x14, .i16⟩
  | .hbm, ⟨3, _⟩ => ⟨S18944x112x2, .i32⟩
  | .hbm, ⟨4, _⟩ => ⟨S18944x14, .i16⟩
  | .hbm, ⟨5, _⟩ => ⟨S256x8, .i8⟩
  | .hbm, ⟨6, _⟩ => ⟨S1536x3584, .bf16⟩
  | .hbm, ⟨7, _⟩ => ⟨S112x2x18944, .i32⟩
  | .hbm, ⟨8, _⟩ => ⟨S112x2x18944, .i32⟩
  | .hbm, ⟨9, _⟩ => ⟨S14x18944, .i16⟩
  | .hbm, ⟨10, _⟩ => ⟨S112x2x18944, .i32⟩
  | .hbm, ⟨11, _⟩ => ⟨S112x2x18944, .i32⟩
  | .hbm, ⟨12, _⟩ => ⟨S14x18944, .i16⟩
  | .hbm, ⟨13, _⟩ => ⟨S8x256, .i8⟩
  | .hbm, ⟨14, _⟩ => ⟨S1536x18944, .bf16⟩
  | .hbm, ⟨15, _⟩ => ⟨S12x128x18944, .bf16⟩
  | .local _ .vmem, ⟨0, _⟩ => ⟨S1536x3584, .bf16⟩
  | .local _ .vmem, ⟨1, _⟩ => ⟨S112x2x256, .i32⟩
  | .local _ .vmem, ⟨2, _⟩ => ⟨S112x2x256, .i32⟩
  | .local _ .vmem, ⟨3, _⟩ => ⟨S14x256, .i16⟩
  | .local _ .vmem, ⟨4, _⟩ => ⟨S14x256, .i16⟩
  | .local _ .vmem, ⟨5, _⟩ => ⟨S112x2x256, .i32⟩
  | .local _ .vmem, ⟨6, _⟩ => ⟨S112x2x256, .i32⟩
  | .local _ .vmem, ⟨7, _⟩ => ⟨S14x256, .i16⟩
  | .local _ .vmem, ⟨8, _⟩ => ⟨S14x256, .i16⟩
  | .local _ .vmem, ⟨9, _⟩ => ⟨S8x256, .i8⟩
  | .local _ .vmem, ⟨10, _⟩ => ⟨S1536x256, .bf16⟩
  | .local _ .vmem, ⟨11, _⟩ => ⟨S1536x256, .bf16⟩
  | .local _ .vmem, ⟨12, _⟩ => ⟨S3x8x128, .i32⟩
  | .local _ .vmem, ⟨13, _⟩ => ⟨S14x1x256, .f32⟩
  | .local _ .vmem, ⟨14, _⟩ => ⟨S3584x256, .bf16⟩
  | .local _ .vmem, ⟨15, _⟩ => ⟨S3584x256, .bf16⟩
  | _, _ => ⟨S12x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨1, ![74], ![false]⟩

@[reducible] def k0_t1_loop : Scf.Loop 32 :=
  let c0_i32_50 : BitVec 32 := 0#32
  let c14_i32 : BitVec 32 := 14#32
  let v131 : BitVec 32 := Scalar.addi c0_i32_50 c14_i32
  let c1_i32_51 : BitVec 32 := 1#32
  ⟨c0_i32_50, v131, c1_i32_51⟩
def k0_off1 (k0_t1 : Fin k0_t1_loop.trips) (c0_i32_146 : BitVec 32) : Fin 3 → Nat :=
  let c0_i32_50 : BitVec 32 := 0#32
  let c1_i32_51 : BitVec 32 := 1#32
  let arg12 : BitVec 32 := Scf.iv c0_i32_50 c1_i32_51 k0_t1
  let c8_i32 : BitVec 32 := 8#32
  let v278 : BitVec 32 := Scalar.muli arg12 c8_i32
  let v279 : BitVec 32 := Scalar.addi v278 c0_i32_146
  let v280 : Index := Scalar.indexCast v279
  let c0_147 : Index := 0#32
  let c0_148 : Index := 0#32
  ![v280.toNat, 0, 0]
def k0_off2 (k0_t1 : Fin k0_t1_loop.trips) (c0_i32_146 : BitVec 32) : Fin 3 → Nat :=
  let c0_i32_50 : BitVec 32 := 0#32
  let c1_i32_51 : BitVec 32 := 1#32
  let arg12 : BitVec 32 := Scf.iv c0_i32_50 c1_i32_51 k0_t1
  let c8_i32 : BitVec 32 := 8#32
  let v278 : BitVec 32 := Scalar.muli arg12 c8_i32
  let v279 : BitVec 32 := Scalar.addi v278 c0_i32_146
  let v285 : Index := Scalar.indexCast v279
  let c1_149 : Index := 1#32
  let c0_150 : Index := 0#32
  ![v285.toNat, 1, 0]
def k0_off3 (k0_t1 : Fin k0_t1_loop.trips) : Fin 3 → Nat :=
  let c0_i32_50 : BitVec 32 := 0#32
  let c1_i32_51 : BitVec 32 := 1#32
  let arg12 : BitVec 32 := Scf.iv c0_i32_50 c1_i32_51 k0_t1
  let v290 : Index := Scalar.indexCast arg12
  let c0_151 : Index := 0#32
  let c0_152 : Index := 0#32
  ![v290.toNat, 0, 0]
def k0_off4 (k0_t1 : Fin k0_t1_loop.trips) (c0_i32_146 : BitVec 32) (c0_i32_165 : BitVec 32) : Fin 2 → Nat :=
  let c0_i32_50 : BitVec 32 := 0#32
  let c1_i32_51 : BitVec 32 := 1#32
  let arg12 : BitVec 32 := Scf.iv c0_i32_50 c1_i32_51 k0_t1
  let c8_i32 : BitVec 32 := 8#32
  let v278 : BitVec 32 := Scalar.muli arg12 c8_i32
  let v279 : BitVec 32 := Scalar.addi v278 c0_i32_146
  let c32_i32 : BitVec 32 := 32#32
  let v353 : BitVec 32 := Scalar.muli v279 c32_i32
  let v354 : BitVec 32 := Scalar.addi v353 c0_i32_165
  let v355 : Index := Scalar.indexCast v354
  let c0_166 : Index := 0#32
  ![v355.toNat, 0]
def k0_off5 (k0_t1 : Fin k0_t1_loop.trips) (c0_i32_146 : BitVec 32) : Fin 3 → Nat :=
  let c0_i32_50 : BitVec 32 := 0#32
  let c1_i32_51 : BitVec 32 := 1#32
  let arg12 : BitVec 32 := Scf.iv c0_i32_50 c1_i32_51 k0_t1
  let c8_i32 : BitVec 32 := 8#32
  let v278 : BitVec 32 := Scalar.muli arg12 c8_i32
  let v279 : BitVec 32 := Scalar.addi v278 c0_i32_146
  let v417 : Index := Scalar.indexCast v279
  let c0_184 : Index := 0#32
  let c128 : Index := 128#32
  ![v417.toNat, 0, 128]
def k0_off6 (k0_t1 : Fin k0_t1_loop.trips) (c0_i32_146 : BitVec 32) : Fin 3 → Nat :=
  let c0_i32_50 : BitVec 32 := 0#32
  let c1_i32_51 : BitVec 32 := 1#32
  let arg12 : BitVec 32 := Scf.iv c0_i32_50 c1_i32_51 k0_t1
  let c8_i32 : BitVec 32 := 8#32
  let v278 : BitVec 32 := Scalar.muli arg12 c8_i32
  let v279 : BitVec 32 := Scalar.addi v278 c0_i32_146
  let v422 : Index := Scalar.indexCast v279
  let c1_185 : Index := 1#32
  let c128_186 : Index := 128#32
  ![v422.toNat, 1, 128]
def k0_off7 (k0_t1 : Fin k0_t1_loop.trips) : Fin 3 → Nat :=
  let c0_i32_50 : BitVec 32 := 0#32
  let c1_i32_51 : BitVec 32 := 1#32
  let arg12 : BitVec 32 := Scf.iv c0_i32_50 c1_i32_51 k0_t1
  let v427 : Index := Scalar.indexCast arg12
  let c0_187 : Index := 0#32
  let c128_188 : Index := 128#32
  ![v427.toNat, 0, 128]
def k0_off8 (k0_t1 : Fin k0_t1_loop.trips) (c0_i32_146 : BitVec 32) (c0_i32_207 : BitVec 32) : Fin 2 → Nat :=
  let c0_i32_50 : BitVec 32 := 0#32
  let c1_i32_51 : BitVec 32 := 1#32
  let arg12 : BitVec 32 := Scf.iv c0_i32_50 c1_i32_51 k0_t1
  let c8_i32 : BitVec 32 := 8#32
  let v278 : BitVec 32 := Scalar.muli arg12 c8_i32
  let v279 : BitVec 32 := Scalar.addi v278 c0_i32_146
  let c32_i32_206 : BitVec 32 := 32#32
  let v490 : BitVec 32 := Scalar.muli v279 c32_i32_206
  let v491 : BitVec 32 := Scalar.addi v490 c0_i32_207
  let v492 : Index := Scalar.indexCast v491
  let c128_208 : Index := 128#32
  ![v492.toNat, 128]
@[reducible] def k0_t2_loop : Scf.Loop 32 :=
  let c0_i32_128 : BitVec 32 := 0#32
  let c14_i32_129 : BitVec 32 := 14#32
  let v260 : BitVec 32 := Scalar.addi c0_i32_128 c14_i32_129
  let c1_i32_130 : BitVec 32 := 1#32
  ⟨c0_i32_128, v260, c1_i32_130⟩
def k0_off9 (k0_t2 : Fin k0_t2_loop.trips) (c0_i32_146 : BitVec 32) : Fin 3 → Nat :=
  let c0_i32_128 : BitVec 32 := 0#32
  let c1_i32_130 : BitVec 32 := 1#32
  let arg12 : BitVec 32 := Scf.iv c0_i32_128 c1_i32_130 k0_t2
  let c8_i32 : BitVec 32 := 8#32
  let v278 : BitVec 32 := Scalar.muli arg12 c8_i32
  let v279 : BitVec 32 := Scalar.addi v278 c0_i32_146
  let v280 : Index := Scalar.indexCast v279
  let c0_147 : Index := 0#32
  let c0_148 : Index := 0#32
  ![v280.toNat, 0, 0]
def k0_off10 (k0_t2 : Fin k0_t2_loop.trips) (c0_i32_146 : BitVec 32) : Fin 3 → Nat :=
  let c0_i32_128 : BitVec 32 := 0#32
  let c1_i32_130 : BitVec 32 := 1#32
  let arg12 : BitVec 32 := Scf.iv c0_i32_128 c1_i32_130 k0_t2
  let c8_i32 : BitVec 32 := 8#32
  let v278 : BitVec 32 := Scalar.muli arg12 c8_i32
  let v279 : BitVec 32 := Scalar.addi v278 c0_i32_146
  let v285 : Index := Scalar.indexCast v279
  let c1_149 : Index := 1#32
  let c0_150 : Index := 0#32
  ![v285.toNat, 1, 0]
def k0_off11 (k0_t2 : Fin k0_t2_loop.trips) : Fin 3 → Nat :=
  let c0_i32_128 : BitVec 32 := 0#32
  let c1_i32_130 : BitVec 32 := 1#32
  let arg12 : BitVec 32 := Scf.iv c0_i32_128 c1_i32_130 k0_t2
  let v290 : Index := Scalar.indexCast arg12
  let c0_151 : Index := 0#32
  let c0_152 : Index := 0#32
  ![v290.toNat, 0, 0]
def k0_off12 (k0_t2 : Fin k0_t2_loop.trips) (c0_i32_146 : BitVec 32) (c0_i32_165 : BitVec 32) : Fin 2 → Nat :=
  let c0_i32_128 : BitVec 32 := 0#32
  let c1_i32_130 : BitVec 32 := 1#32
  let arg12 : BitVec 32 := Scf.iv c0_i32_128 c1_i32_130 k0_t2
  let c8_i32 : BitVec 32 := 8#32
  let v278 : BitVec 32 := Scalar.muli arg12 c8_i32
  let v279 : BitVec 32 := Scalar.addi v278 c0_i32_146
  let c32_i32 : BitVec 32 := 32#32
  let v353 : BitVec 32 := Scalar.muli v279 c32_i32
  let v354 : BitVec 32 := Scalar.addi v353 c0_i32_165
  let v355 : Index := Scalar.indexCast v354
  let c0_166 : Index := 0#32
  ![v355.toNat, 0]
def k0_off13 (k0_t2 : Fin k0_t2_loop.trips) (c0_i32_146 : BitVec 32) : Fin 3 → Nat :=
  let c0_i32_128 : BitVec 32 := 0#32
  let c1_i32_130 : BitVec 32 := 1#32
  let arg12 : BitVec 32 := Scf.iv c0_i32_128 c1_i32_130 k0_t2
  let c8_i32 : BitVec 32 := 8#32
  let v278 : BitVec 32 := Scalar.muli arg12 c8_i32
  let v279 : BitVec 32 := Scalar.addi v278 c0_i32_146
  let v417 : Index := Scalar.indexCast v279
  let c0_184 : Index := 0#32
  let c128 : Index := 128#32
  ![v417.toNat, 0, 128]
def k0_off14 (k0_t2 : Fin k0_t2_loop.trips) (c0_i32_146 : BitVec 32) : Fin 3 → Nat :=
  let c0_i32_128 : BitVec 32 := 0#32
  let c1_i32_130 : BitVec 32 := 1#32
  let arg12 : BitVec 32 := Scf.iv c0_i32_128 c1_i32_130 k0_t2
  let c8_i32 : BitVec 32 := 8#32
  let v278 : BitVec 32 := Scalar.muli arg12 c8_i32
  let v279 : BitVec 32 := Scalar.addi v278 c0_i32_146
  let v422 : Index := Scalar.indexCast v279
  let c1_185 : Index := 1#32
  let c128_186 : Index := 128#32
  ![v422.toNat, 1, 128]
def k0_off15 (k0_t2 : Fin k0_t2_loop.trips) : Fin 3 → Nat :=
  let c0_i32_128 : BitVec 32 := 0#32
  let c1_i32_130 : BitVec 32 := 1#32
  let arg12 : BitVec 32 := Scf.iv c0_i32_128 c1_i32_130 k0_t2
  let v427 : Index := Scalar.indexCast arg12
  let c0_187 : Index := 0#32
  let c128_188 : Index := 128#32
  ![v427.toNat, 0, 128]
def k0_off16 (k0_t2 : Fin k0_t2_loop.trips) (c0_i32_146 : BitVec 32) (c0_i32_207 : BitVec 32) : Fin 2 → Nat :=
  let c0_i32_128 : BitVec 32 := 0#32
  let c1_i32_130 : BitVec 32 := 1#32
  let arg12 : BitVec 32 := Scf.iv c0_i32_128 c1_i32_130 k0_t2
  let c8_i32 : BitVec 32 := 8#32
  let v278 : BitVec 32 := Scalar.muli arg12 c8_i32
  let v279 : BitVec 32 := Scalar.addi v278 c0_i32_146
  let c32_i32_206 : BitVec 32 := 32#32
  let v490 : BitVec 32 := Scalar.muli v279 c32_i32_206
  let v491 : BitVec 32 := Scalar.addi v490 c0_i32_207
  let v492 : Index := Scalar.indexCast v491
  let c128_208 : Index := 128#32
  ![v492.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S112x2x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S14x256 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S112x2x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S14x256 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1536x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S12x128x3584 : Shape := ⟨3, ![12, 128, 3584]⟩
abbrev S18944x112x2 : Shape := ⟨3, ![18944, 112, 2]⟩
abbrev S18944x14 : Shape := ⟨2, ![18944, 14]⟩
abbrev S256x8 : Shape := ⟨2, ![256, 8]⟩
abbrev S18944x112x1 : Shape := ⟨3, ![18944, 112, 1]⟩
abbrev S18944x112 : Shape := ⟨2, ![18944, 112]⟩
abbrev S_ : Shape := ⟨0, ![]⟩
abbrev S18944x14x8 : Shape := ⟨3, ![18944, 14, 8]⟩
abbrev S4 : Shape := ⟨1, ![4]⟩
abbrev S1x1x4 : Shape := ⟨3, ![1, 1, 4]⟩
abbrev S18944x112x4 : Shape := ⟨3, ![18944, 112, 4]⟩
abbrev S8 : Shape := ⟨1, ![8]⟩
abbrev S18944x112x4x1 : Shape := ⟨4, ![18944, 112, 4, 1]⟩
abbrev S1x1x1x8 : Shape := ⟨4, ![1, 1, 1, 8]⟩
abbrev S18944x112x4x8 : Shape := ⟨4, ![18944, 112, 4, 8]⟩
abbrev S18944x112x1x1 : Shape := ⟨4, ![18944, 112, 1, 1]⟩
abbrev S18944x3584 : Shape := ⟨2, ![18944, 3584]⟩
abbrev S12x128x18944 : Shape := ⟨3, ![12, 128, 18944]⟩

abbrev nBuf : Space → Nat
  | .hbm => 167
  | .vmem => 4
  | .smem => 0
  | _ => 0

abbrev hbmTy0_0 (i : Nat) : BufTy := match i % 128 with
  | 0 => ⟨S12x128x3584, .bf16⟩
  | 1 => ⟨S18944x112x2, .i32⟩
  | 2 => ⟨S18944x14, .i16⟩
  | 3 => ⟨S18944x112x2, .i32⟩
  | 4 => ⟨S18944x14, .i16⟩
  | 5 => ⟨S256x8, .i8⟩
  | 6 => ⟨S18944x14, .f16⟩
  | 7 => ⟨S18944x14, .f16⟩
  | 8 => ⟨S18944x14, .f32⟩
  | 9 => ⟨S18944x14, .f32⟩
  | 10 => ⟨S18944x112x1, .i32⟩
  | 11 => ⟨S18944x112, .i32⟩
  | 12 => ⟨S18944x112x1, .i32⟩
  | 13 => ⟨S18944x112, .i32⟩
  | 14 => ⟨S_, .i32⟩
  | 15 => ⟨S18944x112, .i32⟩
  | 16 => ⟨S18944x112, .i32⟩
  | 17 => ⟨S18944x112, .f32⟩
  | 18 => ⟨S18944x14x8, .f32⟩
  | 19 => ⟨S18944x112, .f32⟩
  | 20 => ⟨S_, .f32⟩
  | 21 => ⟨S18944x112, .f32⟩
  | 22 => ⟨S18944x112, .f32⟩
  | 23 => ⟨S18944x112, .f32⟩
  | 24 => ⟨S_, .f32⟩
  | 25 => ⟨S18944x112, .f32⟩
  | 26 => ⟨S18944x112, .f32⟩
  | 27 => ⟨S4, .i32⟩
  | 28 => ⟨S18944x112x1, .i32⟩
  | 29 => ⟨S_, .i32⟩
  | 30 => ⟨S4, .i32⟩
  | 31 => ⟨S4, .i32⟩
  | 32 => ⟨S1x1x4, .i32⟩
  | 33 => ⟨S18944x112x4, .i32⟩
  | 34 => ⟨S18944x112x4, .i32⟩
  | 35 => ⟨S18944x112x4, .i32⟩
  | 36 => ⟨S_, .i32⟩
  | 37 => ⟨S18944x112x4, .i32⟩
  | 38 => ⟨S18944x112x4, .i32⟩
  | 39 => ⟨S18944x112x1, .i32⟩
  | 40 => ⟨S_, .i32⟩
  | 41 => ⟨S4, .i32⟩
  | 42 => ⟨S4, .i32⟩
  | 43 => ⟨S1x1x4, .i32⟩
  | 44 => ⟨S18944x112x4, .i32⟩
  | 45 => ⟨S18944x112x4, .i32⟩
  | 46 => ⟨S18944x112x4, .i32⟩
  | 47 => ⟨S_, .i32⟩
  | 48 => ⟨S18944x112x4, .i32⟩
  | 49 => ⟨S18944x112x4, .i32⟩
  | 50 => ⟨S18944x112x4, .i32⟩
  | 51 => ⟨S_, .i32⟩
  | 52 => ⟨S18944x112x4, .i32⟩
  | 53 => ⟨S18944x112x4, .i32⟩
  | 54 => ⟨S_, .i32⟩
  | 55 => ⟨S18944x112x4, .i32⟩
  | 56 => ⟨S18944x112x4, .i32⟩
  | 57 => ⟨S18944x112x4, .i32⟩
  | 58 => ⟨S8, .i32⟩
  | 59 => ⟨S18944x112x4x1, .i32⟩
  | 60 => ⟨S1x1x1x8, .i32⟩
  | 61 => ⟨S18944x112x4x8, .i32⟩
  | 62 => ⟨S18944x112x4x8, .i32⟩
  | 63 => ⟨S18944x112x4x8, .i32⟩
  | 64 => ⟨S_, .i32⟩
  | 65 => ⟨S18944x112x4x8, .i32⟩
  | 66 => ⟨S18944x112x4x8, .i32⟩
  | 67 => ⟨S256x8, .i32⟩
  | 68 => ⟨S18944x112x4, .i32⟩
  | 69 => ⟨S18944x112x4x1, .i32⟩
  | 70 => ⟨S18944x112x4x8, .i32⟩
  | 71 => ⟨S18944x112x1x1, .f32⟩
  | 72 => ⟨S18944x112x4x8, .f32⟩
  | 73 => ⟨S18944x112x4x8, .f32⟩
  | 74 => ⟨S18944x112x4x8, .f32⟩
  | 75 => ⟨S_, .i32⟩
  | 76 => ⟨S18944x112x4x8, .i32⟩
  | 77 => ⟨S18944x112x4x8, .i1⟩
  | 78 => ⟨S18944x112x4x8, .f32⟩
  | 79 => ⟨S18944x112x4x8, .f32⟩
  | 80 => ⟨S18944x112x4x8, .bf16⟩
  | 81 => ⟨S18944x3584, .bf16⟩
  | 82 => ⟨S18944x112x1, .i32⟩
  | 83 => ⟨S18944x112, .i32⟩
  | 84 => ⟨S18944x112x1, .i32⟩
  | 85 => ⟨S18944x112, .i32⟩
  | 86 => ⟨S_, .i32⟩
  | 87 => ⟨S18944x112, .i32⟩
  | 88 => ⟨S18944x112, .i32⟩
  | 89 => ⟨S18944x112, .f32⟩
  | 90 => ⟨S18944x14x8, .f32⟩
  | 91 => ⟨S18944x112, .f32⟩
  | 92 => ⟨S_, .f32⟩
  | 93 => ⟨S18944x112, .f32⟩
  | 94 => ⟨S18944x112, .f32⟩
  | 95 => ⟨S18944x112, .f32⟩
  | 96 => ⟨S_, .f32⟩
  | 97 => ⟨S18944x112, .f32⟩
  | 98 => ⟨S18944x112, .f32⟩
  | 99 => ⟨S4, .i32⟩
  | 100 => ⟨S18944x112x1, .i32⟩
  | 101 => ⟨S_, .i32⟩
  | 102 => ⟨S4, .i32⟩
  | 103 => ⟨S4, .i32⟩
  | 104 => ⟨S1x1x4, .i32⟩
  | 105 => ⟨S18944x112x4, .i32⟩
  | 106 => ⟨S18944x112x4, .i32⟩
  | 107 => ⟨S18944x112x4, .i32⟩
  | 108 => ⟨S_, .i32⟩
  | 109 => ⟨S18944x112x4, .i32⟩
  | 110 => ⟨S18944x112x4, .i32⟩
  | 111 => ⟨S18944x112x1, .i32⟩
  | 112 => ⟨S_, .i32⟩
  | 113 => ⟨S4, .i32⟩
  | 114 => ⟨S4, .i32⟩
  | 115 => ⟨S1x1x4, .i32⟩
  | 116 => ⟨S18944x112x4, .i32⟩
  | 117 => ⟨S18944x112x4, .i32⟩
  | 118 => ⟨S18944x112x4, .i32⟩
  | 119 => ⟨S_, .i32⟩
  | 120 => ⟨S18944x112x4, .i32⟩
  | 121 => ⟨S18944x112x4, .i32⟩
  | 122 => ⟨S18944x112x4, .i32⟩
  | 123 => ⟨S_, .i32⟩
  | 124 => ⟨S18944x112x4, .i32⟩
  | 125 => ⟨S18944x112x4, .i32⟩
  | 126 => ⟨S_, .i32⟩
  | 127 => ⟨S18944x112x4, .i32⟩
  | _ => ⟨S12x128x3584, .bf16⟩

abbrev hbmTy0_1 (i : Nat) : BufTy := match i % 128 with
  | 0 => ⟨S18944x112x4, .i32⟩
  | 1 => ⟨S18944x112x4, .i32⟩
  | 2 => ⟨S8, .i32⟩
  | 3 => ⟨S18944x112x4x1, .i32⟩
  | 4 => ⟨S1x1x1x8, .i32⟩
  | 5 => ⟨S18944x112x4x8, .i32⟩
  | 6 => ⟨S18944x112x4x8, .i32⟩
  | 7 => ⟨S18944x112x4x8, .i32⟩
  | 8 => ⟨S_, .i32⟩
  | 9 => ⟨S18944x112x4x8, .i32⟩
  | 10 => ⟨S18944x112x4x8, .i32⟩
  | 11 => ⟨S256x8, .i32⟩
  | 12 => ⟨S18944x112x4, .i32⟩
  | 13 => ⟨S18944x112x4x1, .i32⟩
  | 14 => ⟨S18944x112x4x8, .i32⟩
  | 15 => ⟨S18944x112x1x1, .f32⟩
  | 16 => ⟨S18944x112x4x8, .f32⟩
  | 17 => ⟨S18944x112x4x8, .f32⟩
  | 18 => ⟨S18944x112x4x8, .f32⟩
  | 19 => ⟨S_, .i32⟩
  | 20 => ⟨S18944x112x4x8, .i32⟩
  | 21 => ⟨S18944x112x4x8, .i1⟩
  | 22 => ⟨S18944x112x4x8, .f32⟩
  | 23 => ⟨S18944x112x4x8, .f32⟩
  | 24 => ⟨S18944x112x4x8, .bf16⟩
  | 25 => ⟨S18944x3584, .bf16⟩
  | 26 => ⟨S12x128x18944, .f32⟩
  | 27 => ⟨S12x128x18944, .f32⟩
  | 28 => ⟨S12x128x18944, .f32⟩
  | 29 => ⟨S12x128x18944, .f32⟩
  | 30 => ⟨S_, .f32⟩
  | 31 => ⟨S12x128x18944, .f32⟩
  | 32 => ⟨S12x128x18944, .f32⟩
  | 33 => ⟨S_, .f32⟩
  | 34 => ⟨S12x128x18944, .f32⟩
  | 35 => ⟨S12x128x18944, .f32⟩
  | 36 => ⟨S12x128x18944, .f32⟩
  | 37 => ⟨S12x128x18944, .f32⟩
  | 38 => ⟨S12x128x18944, .bf16⟩
  | _ => ⟨S12x128x3584, .bf16⟩

abbrev hbmTy (i : Nat) : BufTy := match i / 128 with
  | 0 => hbmTy0_0 i
  | 1 => hbmTy0_1 i
  | _ => ⟨S12x128x3584, .bf16⟩

abbrev bufTy : (tb : Table) → Fin (tcTables nBuf tb) → BufTy
  | .hbm, ⟨i, _⟩ => hbmTy i
  | .local _ .vmem, ⟨0, _⟩ => ⟨S18944x14, .f16⟩
  | .local _ .vmem, ⟨1, _⟩ => ⟨S18944x14, .f16⟩
  | .local _ .vmem, ⟨2, _⟩ => ⟨S18944x14, .f32⟩
  | .local _ .vmem, ⟨3, _⟩ => ⟨S18944x14, .f32⟩
  | _, _ => ⟨S12x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_c_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_c_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_11 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_c_12 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_13 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_c_14 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_c_15 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_c_16 : Ref sig .tc := ⟨.hbm, 123, rfl⟩
abbrev main_v98 : Ref sig .tc := ⟨.hbm, 124, rfl⟩
abbrev main_v99 : Ref sig .tc := ⟨.hbm, 125, rfl⟩
abbrev main_c_17 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_c_18 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_c_19 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_call2_v0 : Ref sig .tc := ⟨.hbm, 156, rfl⟩
abbrev main_call2_v1 : Ref sig .tc := ⟨.hbm, 157, rfl⟩
abbrev main_call2_cst : Ref sig .tc := ⟨.hbm, 158, rfl⟩
abbrev main_call2_v2 : Ref sig .tc := ⟨.hbm, 159, rfl⟩
abbrev main_call2_v3 : Ref sig .tc := ⟨.hbm, 160, rfl⟩
abbrev main_call2_cst_0 : Ref sig .tc := ⟨.hbm, 161, rfl⟩
abbrev main_call2_v4 : Ref sig .tc := ⟨.hbm, 162, rfl⟩
abbrev main_call2_v5 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S18944x14 .f16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x14 .f16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18944x14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18944x14 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Frame.lean ====
/- The frame of `Kernel`: the body runs from any contents of its scratch and its output block, and the launch of the pipeline leaves every argument array unchanged. Nothing is said of what the output holds. -/
module

public import proofs.«01_k».proof.Proof.Gen.Kernel.Frame
public import proofs.«01_k».proof.Proof.Gen.Kernel.Loops
public import Idealize.ShloMosaic.Lib.Claim

@[expose] public section

-- membership in a rectangle of production extents recurses once per coordinate of the long axes
set_option maxRecDepth 16384

noncomputable section

namespace Cert.Kernel.Body

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 74 = 0 :=
  (fun t => by
    have ht : t.val < 74 := Nat.lt_of_lt_of_eq t.isLt N_0
    have e0 : (grid0.coords t 0).val = t.val / 1 % 74 := Pipeline.Grid.coords_val t 0 (by decide) rfl
    simp only [cond0_0, e0]
    word_cmp
   : ∀ t : Fin grid0.N, cond0_0 (grid0.coords t) ↔ t.val % 74 = 0)

set_option maxHeartbeats 8000000 in
/-- The body at a point that builds the table: every buffer the body writes ends at some contents. -/
theorem run_first (c : Dev nD) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (hc0 : cond0_0 i)
    (x0 : Vec F S1536x3584 .bf16) (x1 : Vec F S112x2x256 .i32) (x2 : Vec F S14x256 .i16) (x3 : Vec F S112x2x256 .i32) (x4 : Vec F S14x256 .i16) (x5 : Vec F S8x256 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_iq2_gated i arg1 harg1 arg2 harg2 arg3 harg3 arg4 harg4 arg5 harg5 arg6 harg6 arg7 harg7 arg8 harg8 arg9 harg9 arg10 harg10 arg11 harg11) K := by
  simp only [cc0_iq2_gated_eq_skeleton]; unfold cc0_iq2_gated_skel
  simp only [k0_part102_eq_skeleton, k0_part1_eq_skeleton, k0_part103_eq_skeleton, k0_part104_eq_skeleton, k0_part105_eq_skeleton, k0_part106_eq_skeleton, k0_part107_eq_skeleton, k0_part108_eq_skeleton, k0_part109_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

set_option maxHeartbeats 8000000 in
/-- The body at a point that finds the table built: every buffer the body writes ends at some contents. -/
theorem run_later (c : Dev nD) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (hc0 : ¬cond0_0 i)
    (x0 : Vec F S1536x3584 .bf16) (x1 : Vec F S112x2x256 .i32) (x2 : Vec F S14x256 .i16) (x3 : Vec F S112x2x256 .i32) (x4 : Vec F S14x256 .i16) (x5 : Vec F S8x256 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_iq2_gated i arg1 harg1 arg2 harg2 arg3 harg3 arg4 harg4 arg5 harg5 arg6 harg6 arg7 harg7 arg8 harg8 arg9 harg9 arg10 harg10 arg11 harg11) K := by
  simp only [cc0_iq2_gated_eq_skeleton]; unfold cc0_iq2_gated_skel
  simp only [k0_part102_eq_skeleton, k0_part103_eq_skeleton, k0_part104_eq_skeleton, k0_part105_eq_skeleton, k0_part106_eq_skeleton, k0_part107_eq_skeleton, k0_part108_eq_skeleton, k0_part109_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1536x3584 .bf16 := win0_0.stage (cfg0.slots t 0)
/-- The staging buffer of window 0 is a whole buffer. -/
abbrev hs0_0 (t : Fin cfg0.N) : (ms0_0 t).IsWhole := hstage0_0 ((cfg0.slots t 0).cast nbuf0_0)
/-- The staging buffer of window 1 at point `t`. -/
abbrev ms0_1 (t : Fin cfg0.N) : Memref sig .tc .vmem S112x2x256 .i32 := win0_1.stage (cfg0.slots t 1)
/-- The staging buffer of window 1 is a whole buffer. -/
abbrev hs0_1 (t : Fin cfg0.N) : (ms0_1 t).IsWhole := hstage0_1 ((cfg0.slots t 1).cast nbuf0_1)
/-- The staging buffer of window 2 at point `t`. -/
abbrev ms0_2 (t : Fin cfg0.N) : Memref sig .tc .vmem S14x256 .i16 := win0_2.stage (cfg0.slots t 2)
/-- The staging buffer of window 2 is a whole buffer. -/
abbrev hs0_2 (t : Fin cfg0.N) : (ms0_2 t).IsWhole := hstage0_2 ((cfg0.slots t 2).cast nbuf0_2)
/-- The staging buffer of window 3 at point `t`. -/
abbrev ms0_3 (t : Fin cfg0.N) : Memref sig .tc .vmem S112x2x256 .i32 := win0_3.stage (cfg0.slots t 3)
/-- The staging buffer of window 3 is a whole buffer. -/
abbrev hs0_3 (t : Fin cfg0.N) : (ms0_3 t).IsWhole := hstage0_3 ((cfg0.slots t 3).cast nbuf0_3)
/-- The staging buffer of window 4 at point `t`. -/
abbrev ms0_4 (t : Fin cfg0.N) : Memref sig .tc .vmem S14x256 .i16 := win0_4.stage (cfg0.slots t 4)
/-- The staging buffer of window 4 is a whole buffer. -/
abbrev hs0_4 (t : Fin cfg0.N) : (ms0_4 t).IsWhole := hstage0_4 ((cfg0.slots t 4).cast nbuf0_4)
/-- The staging buffer of window 5 at point `t`. -/
abbrev ms0_5 (t : Fin cfg0.N) : Memref sig .tc .vmem S8x256 .i8 := win0_5.stage (cfg0.slots t 5)
/-- The staging buffer of window 5 is a whole buffer. -/
abbrev hs0_5 (t : Fin cfg0.N) : (ms0_5 t).IsWhole := hstage0_5 ((cfg0.slots t 5).cast nbuf0_5)
/-- The staging buffer of window 6 at point `t`. -/
abbrev ms0_6 (t : Fin cfg0.N) : Memref sig .tc .vmem S1536x256 .bf16 := win0_6.stage (cfg0.slots t 6)
/-- The staging buffer of window 6 is a whole buffer. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3x8x128 .i32 := Memref.whole cc0_scratch0
/-- Scratch buffer 1, whole. -/
abbrev scM0_1 : Memref sig .tc .vmem S14x1x256 .f32 := Memref.whole cc0_scratch1
/-- Scratch buffer 2, whole. -/
abbrev scM0_2 : Memref sig .tc .vmem S3584x256 .bf16 := Memref.whole cc0_scratch2
/-- Scratch buffer 3, whole. -/
abbrev scM0_3 : Memref sig .tc .vmem S3584x256 .bf16 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The buffers the lines after the region WRITE, as references: results computed from contents the run does not name
    (an operand the body wrote by its own DMA, or a forgotten output), so nothing is stated of them either. -/
def T0 : Finset (Ref sig .tc) := {main_v9}
/-- The host operations after the launch write only buffers of `T0`. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The argument arrays at the end of a run whose post forgets the output. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the output forgotten; the invariant is the launch's (every scratch at anything);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves the block of input window 1 as it was. -/
theorem after0_1 (c : Dev nD) (t : Fin cfg0.N) : (dats m 0 c).after 1 t = iblk m c 1 t := by dsimp only [dats]
/-- The body leaves the block of input window 2 as it was. -/
theorem after0_2 (c : Dev nD) (t : Fin cfg0.N) : (dats m 0 c).after 2 t = iblk m c 2 t := by dsimp only [dats]
/-- The body leaves the block of input window 3 as it was. -/
theorem after0_3 (c : Dev nD) (t : Fin cfg0.N) : (dats m 0 c).after 3 t = iblk m c 3 t := by dsimp only [dats]
/-- The body leaves the block of input window 4 as it was. -/
theorem after0_4 (c : Dev nD) (t : Fin cfg0.N) : (dats m 0 c).after 4 t = iblk m c 4 t := by dsimp only [dats]
/-- The body leaves the block of input window 5 as it was. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The staging buffer of input window 1 holds its block before every point. -/
theorem before0_1 (c : Dev nD) (t : Fin cfg0.N) (d) : (dats m 0 c).before 1 t d = iblk m c 1 t :=
  before0_1_of m (dats m 0 c) (A_eq m c 1) (after0_1 m c) t d
/-- The staging buffer of input window 2 holds its block before every point. -/
theorem before0_2 (c : Dev nD) (t : Fin cfg0.N) (d) : (dats m 0 c).before 2 t d = iblk m c 2 t :=
  before0_2_of m (dats m 0 c) (A_eq m c 2) (after0_2 m c) t d
/-- The staging buffer of input window 3 holds its block before every point. -/
theorem before0_3 (c : Dev nD) (t : Fin cfg0.N) (d) : (dats m 0 c).before 3 t d = iblk m c 3 t :=
  before0_3_of m (dats m 0 c) (A_eq m c 3) (after0_3 m c) t d
/-- The staging buffer of input window 4 holds its block before every point. -/
theorem before0_4 (c : Dev nD) (t : Fin cfg0.N) (d) : (dats m 0 c).before 4 t d = iblk m c 4 t :=
  before0_4_of m (dats m 0 c) (A_eq m c 4) (after0_4 m c) t d
/-- The staging buffer of input window 5 holds its block before every point. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 6400000 in
/-- The body at any point: the inputs' memrefs hold their blocks, the scratch is at anything before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  by_cases h0 : t.val % 74 = 0
  · iapply (run_first c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply (run_later c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => Idealize.SL.BI.Entails.refl _) (hout := fun _ => Idealize.SL.BI.Entails.refl _)

/-- At the compiled mesh, for any values, from any memory with zero counters: every weakly fair execution of @main on the
    TensorCores terminates, and every final state has every INPUT array of the pipeline unchanged, nothing stated of the
    FORGOTTEN outputs (window 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Body

end
-- ==== Proof.KernelIdeal.Frame.lean ====
/- The frame of `KernelIdeal`: the body runs from any contents of its scratch and its output block, and the launch of the pipeline leaves every argument array unchanged. Nothing is said of what the output holds. -/
module

public import proofs.«01_k».proof.Proof.Gen.KernelIdeal.Frame
public import proofs.«01_k».proof.Proof.Gen.KernelIdeal.Loops
public import Idealize.ShloMosaic.Lib.Claim

@[expose] public section

-- membership in a rectangle of production extents recurses once per coordinate of the long axes
set_option maxRecDepth 16384

noncomputable section

namespace Cert.KernelIdeal.Body

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 74 = 0 :=
  (fun t => by
    have ht : t.val < 74 := Nat.lt_of_lt_of_eq t.isLt N_0
    have e0 : (grid0.coords t 0).val = t.val / 1 % 74 := Pipeline.Grid.coords_val t 0 (by decide) rfl
    simp only [cond0_0, e0]
    word_cmp
   : ∀ t : Fin grid0.N, cond0_0 (grid0.coords t) ↔ t.val % 74 = 0)

set_option maxHeartbeats 8000000 in
/-- The body at a point that builds the table: every buffer the body writes ends at some contents. -/
theorem run_first (c : Dev nD) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (hc0 : cond0_0 i)
    (x0 : Vec F S1536x3584 .bf16) (x1 : Vec F S112x2x256 .i32) (x2 : Vec F S14x256 .i16) (x3 : Vec F S112x2x256 .i32) (x4 : Vec F S14x256 .i16) (x5 : Vec F S8x256 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_iq2_gated i arg1 harg1 arg2 harg2 arg3 harg3 arg4 harg4 arg5 harg5 arg6 harg6 arg7 harg7 arg8 harg8 arg9 harg9 arg10 harg10 arg11 harg11) K := by
  simp only [cc0_iq2_gated_eq_skeleton]; unfold cc0_iq2_gated_skel
  simp only [k0_part102_eq_skeleton, k0_part1_eq_skeleton, k0_part103_eq_skeleton, k0_part104_eq_skeleton, k0_part105_eq_skeleton, k0_part106_eq_skeleton, k0_part107_eq_skeleton, k0_part108_eq_skeleton, k0_part109_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

set_option maxHeartbeats 8000000 in
/-- The body at a point that finds the table built: every buffer the body writes ends at some contents. -/
theorem run_later (c : Dev nD) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (hc0 : ¬cond0_0 i)
    (x0 : Vec F S1536x3584 .bf16) (x1 : Vec F S112x2x256 .i32) (x2 : Vec F S14x256 .i16) (x3 : Vec F S112x2x256 .i32) (x4 : Vec F S14x256 .i16) (x5 : Vec F S8x256 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_iq2_gated i arg1 harg1 arg2 harg2 arg3 harg3 arg4 harg4 arg5 harg5 arg6 harg6 arg7 harg7 arg8 harg8 arg9 harg9 arg10 harg10 arg11 harg11) K := by
  simp only [cc0_iq2_gated_eq_skeleton]; unfold cc0_iq2_gated_skel
  simp only [k0_part102_eq_skeleton, k0_part103_eq_skeleton, k0_part104_eq_skeleton, k0_part105_eq_skeleton, k0_part106_eq_skeleton, k0_part107_eq_skeleton, k0_part108_eq_skeleton, k0_part109_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; iexists _; isplitr
    swap; · iexact H6
    ipureintro; rfl
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1536x3584 .bf16 := win0_0.stage (cfg0.slots t 0)
/-- The staging buffer of window 0 is a whole buffer. -/
abbrev hs0_0 (t : Fin cfg0.N) : (ms0_0 t).IsWhole := hstage0_0 ((cfg0.slots t 0).cast nbuf0_0)
/-- The staging buffer of window 1 at point `t`. -/
abbrev ms0_1 (t : Fin cfg0.N) : Memref sig .tc .vmem S112x2x256 .i32 := win0_1.stage (cfg0.slots t 1)
/-- The staging buffer of window 1 is a whole buffer. -/
abbrev hs0_1 (t : Fin cfg0.N) : (ms0_1 t).IsWhole := hstage0_1 ((cfg0.slots t 1).cast nbuf0_1)
/-- The staging buffer of window 2 at point `t`. -/
abbrev ms0_2 (t : Fin cfg0.N) : Memref sig .tc .vmem S14x256 .i16 := win0_2.stage (cfg0.slots t 2)
/-- The staging buffer of window 2 is a whole buffer. -/
abbrev hs0_2 (t : Fin cfg0.N) : (ms0_2 t).IsWhole := hstage0_2 ((cfg0.slots t 2).cast nbuf0_2)
/-- The staging buffer of window 3 at point `t`. -/
abbrev ms0_3 (t : Fin cfg0.N) : Memref sig .tc .vmem S112x2x256 .i32 := win0_3.stage (cfg0.slots t 3)
/-- The staging buffer of window 3 is a whole buffer. -/
abbrev hs0_3 (t : Fin cfg0.N) : (ms0_3 t).IsWhole := hstage0_3 ((cfg0.slots t 3).cast nbuf0_3)
/-- The staging buffer of window 4 at point `t`. -/
abbrev ms0_4 (t : Fin cfg0.N) : Memref sig .tc .vmem S14x256 .i16 := win0_4.stage (cfg0.slots t 4)
/-- The staging buffer of window 4 is a whole buffer. -/
abbrev hs0_4 (t : Fin cfg0.N) : (ms0_4 t).IsWhole := hstage0_4 ((cfg0.slots t 4).cast nbuf0_4)
/-- The staging buffer of window 5 at point `t`. -/
abbrev ms0_5 (t : Fin cfg0.N) : Memref sig .tc .vmem S8x256 .i8 := win0_5.stage (cfg0.slots t 5)
/-- The staging buffer of window 5 is a whole buffer. -/
abbrev hs0_5 (t : Fin cfg0.N) : (ms0_5 t).IsWhole := hstage0_5 ((cfg0.slots t 5).cast nbuf0_5)
/-- The staging buffer of window 6 at point `t`. -/
abbrev ms0_6 (t : Fin cfg0.N) : Memref sig .tc .vmem S1536x256 .bf16 := win0_6.stage (cfg0.slots t 6)
/-- The staging buffer of window 6 is a whole buffer. -/
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3x8x128 .i32 := Memref.whole cc0_scratch0
/-- Scratch buffer 1, whole. -/
abbrev scM0_1 : Memref sig .tc .vmem S14x1x256 .f32 := Memref.whole cc0_scratch1
/-- Scratch buffer 2, whole. -/
abbrev scM0_2 : Memref sig .tc .vmem S3584x256 .bf16 := Memref.whole cc0_scratch2
/-- Scratch buffer 3, whole. -/
abbrev scM0_3 : Memref sig .tc .vmem S3584x256 .bf16 := Memref.whole cc0_scratch3
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The buffers the lines after the region WRITE, as references: results computed from contents the run does not name
    (an operand the body wrote by its own DMA, or a forgotten output), so nothing is stated of them either. -/
def T0 : Finset (Ref sig .tc) := {main_v9}
/-- The host operations after the launch write only buffers of `T0`. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The argument arrays at the end of a run whose post forgets the output. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

/-! ## The pipeline's proof data -/

/-- The output windows this certificate FORGETS (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the output forgotten; the invariant is the launch's (every scratch at anything);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The body leaves the block of input window 1 as it was. -/
theorem after0_1 (c : Dev nD) (t : Fin cfg0.N) : (dats m 0 c).after 1 t = iblk m c 1 t := by dsimp only [dats]
/-- The body leaves the block of input window 2 as it was. -/
theorem after0_2 (c : Dev nD) (t : Fin cfg0.N) : (dats m 0 c).after 2 t = iblk m c 2 t := by dsimp only [dats]
/-- The body leaves the block of input window 3 as it was. -/
theorem after0_3 (c : Dev nD) (t : Fin cfg0.N) : (dats m 0 c).after 3 t = iblk m c 3 t := by dsimp only [dats]
/-- The body leaves the block of input window 4 as it was. -/
theorem after0_4 (c : Dev nD) (t : Fin cfg0.N) : (dats m 0 c).after 4 t = iblk m c 4 t := by dsimp only [dats]
/-- The body leaves the block of input window 5 as it was. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The staging buffer of input window 1 holds its block before every point. -/
theorem before0_1 (c : Dev nD) (t : Fin cfg0.N) (d) : (dats m 0 c).before 1 t d = iblk m c 1 t :=
  before0_1_of m (dats m 0 c) (A_eq m c 1) (after0_1 m c) t d
/-- The staging buffer of input window 2 holds its block before every point. -/
theorem before0_2 (c : Dev nD) (t : Fin cfg0.N) (d) : (dats m 0 c).before 2 t d = iblk m c 2 t :=
  before0_2_of m (dats m 0 c) (A_eq m c 2) (after0_2 m c) t d
/-- The staging buffer of input window 3 holds its block before every point. -/
theorem before0_3 (c : Dev nD) (t : Fin cfg0.N) (d) : (dats m 0 c).before 3 t d = iblk m c 3 t :=
  before0_3_of m (dats m 0 c) (A_eq m c 3) (after0_3 m c) t d
/-- The staging buffer of input window 4 holds its block before every point. -/
theorem before0_4 (c : Dev nD) (t : Fin cfg0.N) (d) : (dats m 0 c).before 4 t d = iblk m c 4 t :=
  before0_4_of m (dats m 0 c) (A_eq m c 4) (after0_4 m c) t d
/-- The staging buffer of input window 5 holds its block before every point. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 6400000 in
/-- The body at any point: the inputs' memrefs hold their blocks, the scratch is at anything before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl, show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
  by_cases h0 : t.val % 74 = 0
  · iapply (run_first c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iapply (run_later c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => Idealize.SL.BI.Entails.refl _) (hout := fun _ => Idealize.SL.BI.Entails.refl _)

/-- At the compiled mesh, for any values, from any memory with zero counters: every weakly fair execution of @main on the
    TensorCores terminates, and every final state has every INPUT array of the pipeline unchanged, nothing stated of the
    FORGOTTEN outputs (window 6) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_forget m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Body

end
-- ==== Proof.KernelIdeal.Trip.lean ====
module

public import proofs.«01_k».proof.Proof.Gen.KernelIdeal.Loops

@[expose] public section

set_option maxRecDepth 16384
set_option maxHeartbeats 4000000

noncomputable section

namespace Cert.KernelIdeal.Body

open Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A lane gather along a table's row: an index below zero counts from the end. -/
def takeW (t i : IVec S8x128 32) : IVec S8x128 32 :=
  dynamicGather 1 t (shapeCast S8x128 (shapeCast S8x128x1 (select (cmpi .slt i (broadcast S8x128 0#32)) (addi i (broadcast S8x128 128#32)) i) shapeCasts_S8x128_S8x128x1) shapeCasts_S8x128x1_S8x128)

/-- The word pair of a code word `wa`, `wb` at the fields of half `v`: both grid bytes of a row pair as the top halves
    of binary32 words, with their signs. -/
def pairW (v27 tlo thi tsg : IVec S8x128 32) (wa wb : Vec F S1x1x128 .i32) (v : BitVec 32) : IVec S8x128 32 :=
  have A : IVec S8x128 32 := broadcastTo S8x128 (shapeCast S1x128 (shapeCast S1x128 wa shapeCasts_S1x1x128_S1x128) shapeCasts_S1x128_S1x128) broadcasts_S1x128_S8x128
  have B : IVec S8x128 32 := broadcastTo S8x128 (shapeCast S1x128 (shapeCast S1x128 wb shapeCasts_S1x1x128_S1x128) shapeCasts_S1x128_S1x128) broadcasts_S1x128_S8x128
  have f : IVec S8x128 32 := addi v27 (broadcast S8x128 v)
  have idx : IVec S8x128 32 := shrui A (muli (broadcast S8x128 8#32) f)
  have lo7 : IVec S8x128 32 := andi idx (broadcast S8x128 127#32)
  have c : IVec S8x128 1 := cmpi .ne (andi idx (broadcast S8x128 128#32)) (broadcast S8x128 0#32)
  have code : IVec S8x128 32 := andi (shrui B (muli (broadcast S8x128 7#32) f)) (broadcast S8x128 127#32)
  xori (select c (takeW thi lo7) (takeW tlo lo7)) (takeW tsg code)

/-- The scale of a sub-block along the lanes: the super-block's scale times the code word's four top bits plus one half. -/
def scaleV (wb : Vec F S1x1x128 .i32) (d : Vec F S1x1x128 .f32) : FVec F S8x128 .f32 :=
  have B : IVec S8x128 32 := broadcastTo S8x128 (shapeCast S1x128 (shapeCast S1x128 wb shapeCasts_S1x1x128_S1x128) shapeCasts_S1x128_S1x128) broadcasts_S1x128_S8x128
  have D : FVec F S8x128 .f32 := broadcastTo S8x128 (shapeCast S1x128 (shapeCast S1x128 d shapeCasts_S1x1x128_S1x128) shapeCasts_S1x128_S1x128) broadcasts_S1x128_S8x128
  mulf D (addf (sitofp .f32 (shrui B (broadcast S8x128 28#32))) (broadcast S8x128 (Scalar.ofBits .f32 0x3F000000#32)))

/-- Sixteen weight rows of a sub-block, as the kernel computes them. -/
def unitV (v27 tlo thi tsg : IVec S8x128 32) (wa wb : Vec F S1x1x128 .i32) (d : Vec F S1x1x128 .f32) (v : BitVec 32) : FVec F S16x128 .bf16 :=
  shapeCast S16x128 (interleaveRows S16x128
    (truncf .bf16 (mulf (bitcastToFloat .f32 (shli (pairW (F := F) v27 tlo thi tsg wa wb v) (broadcast S8x128 16#32))) (scaleV wb d)))
    (truncf .bf16 (mulf (bitcastToFloat .f32 (andi (pairW (F := F) v27 tlo thi tsg wa wb v) (broadcast S8x128 4294901760#32))) (scaleV wb d)))
    bitcasts_S16x128_w16_S8x128_w32) shapeCasts_S16x128_S16x128

/-- The piece of sixteen rows that trip `k` of loop 1 stores for sub-block `r`, lane half 0, row half `v`. -/
def piece1a (aq : Memref sig .tc .vmem S112x2x256 .i32) (ad : Memref sig .tc .vmem S14x1x256 .f32) (fl tlo thi tsg : IVec S8x128 32)
    (Xq : BufTy.Contents (Elt F) aq.view.ty) (Xd : BufTy.Contents (Elt F) ad.view.ty) (k : Fin k0_t1_loop.trips) (r : Fin 8) (v : Fin 2) : View.Piece (Elt F) S3584x256 .bf16 :=
  ⟨Rect.unit (s := S3584x256) (k0_off4 k (BitVec.ofNat 32 r.val) (BitVec.ofNat 32 (16 * v.val))) S16x128.size (k0_off4_inb k r v), unitV fl tlo thi tsg
    (View.readAt (Elt F) aq.view (Rect.unit (s := S112x2x256) (k0_off1 k (BitVec.ofNat 32 r.val)) S1x1x128.size (k0_off1_inb k r)).toLoadRect Xq)
    (View.readAt (Elt F) aq.view (Rect.unit (s := S112x2x256) (k0_off2 k (BitVec.ofNat 32 r.val)) S1x1x128.size (k0_off2_inb k r)).toLoadRect Xq)
    (View.readAt (Elt F) ad.view (Rect.unit (s := S14x1x256) (k0_off3 k) S1x1x128.size (k0_off3_inb k)).toLoadRect Xd) (BitVec.ofNat 32 (2 * v.val))⟩

/-- The piece of sixteen rows that trip `k` of loop 1 stores for sub-block `r`, lane half 1, row half `v`. -/
def piece1b (aq : Memref sig .tc .vmem S112x2x256 .i32) (ad : Memref sig .tc .vmem S14x1x256 .f32) (fl tlo thi tsg : IVec S8x128 32)
    (Xq : BufTy.Contents (Elt F) aq.view.ty) (Xd : BufTy.Contents (Elt F) ad.view.ty) (k : Fin k0_t1_loop.trips) (r : Fin 8) (v : Fin 2) : View.Piece (Elt F) S3584x256 .bf16 :=
  ⟨Rect.unit (s := S3584x256) (k0_off8 k (BitVec.ofNat 32 r.val) (BitVec.ofNat 32 (16 * v.val))) S16x128.size (k0_off8_inb k r v), unitV fl tlo thi tsg
    (View.readAt (Elt F) aq.view (Rect.unit (s := S112x2x256) (k0_off5 k (BitVec.ofNat 32 r.val)) S1x1x128.size (k0_off5_inb k r)).toLoadRect Xq)
    (View.readAt (Elt F) aq.view (Rect.unit (s := S112x2x256) (k0_off6 k (BitVec.ofNat 32 r.val)) S1x1x128.size (k0_off6_inb k r)).toLoadRect Xq)
    (View.readAt (Elt F) ad.view (Rect.unit (s := S14x1x256) (k0_off7 k) S1x1x128.size (k0_off7_inb k)).toLoadRect Xd) (BitVec.ofNat 32 (2 * v.val))⟩

set_option maxHeartbeats 8000000 in
/-- What one trip of loop 1 stores, last first. -/
theorem trip1_pieces (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v27 : IVec S8x128 32) (v68 : FVec F S14x256 .f32) (v109 : FVec F S1x256 .f32) (v125 : Vec F S1x8x128 .i32) (v127 : Vec F S1x8x128 .i32) (v129 : Vec F S1x8x128 .i32) (X_arg2 : BufTy.Contents (Elt F) arg2.view.ty) (X_arg9 : BufTy.Contents (Elt F) arg9.view.ty) (k : Fin k0_t1_loop.trips) : tripL_k0_t1 (F := F) 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 k = [
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 7 1,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 7 0,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 7 1,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 7 0,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 6 1,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 6 0,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 6 1,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 6 0,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 5 1,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 5 0,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 5 1,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 5 0,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 4 1,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 4 0,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 4 1,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 4 0,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 3 1,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 3 0,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 3 1,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 3 0,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 2 1,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 2 0,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 2 1,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 2 0,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 1 1,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 1 0,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 1 1,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 1 0,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 0 1,
    piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k 0 0,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 0 1,
    piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k 0 0] := by
  unfold tripL_k0_t1 trip_k0_t1
  rfl

/-- The piece of sixteen rows that trip `k` of loop 2 stores for sub-block `r`, lane half 0, row half `v`. -/
def piece2a (aq : Memref sig .tc .vmem S112x2x256 .i32) (ad : Memref sig .tc .vmem S14x1x256 .f32) (fl tlo thi tsg : IVec S8x128 32)
    (Xq : BufTy.Contents (Elt F) aq.view.ty) (Xd : BufTy.Contents (Elt F) ad.view.ty) (k : Fin k0_t2_loop.trips) (r : Fin 8) (v : Fin 2) : View.Piece (Elt F) S3584x256 .bf16 :=
  ⟨Rect.unit (s := S3584x256) (k0_off12 k (BitVec.ofNat 32 r.val) (BitVec.ofNat 32 (16 * v.val))) S16x128.size (k0_off12_inb k r v), unitV fl tlo thi tsg
    (View.readAt (Elt F) aq.view (Rect.unit (s := S112x2x256) (k0_off9 k (BitVec.ofNat 32 r.val)) S1x1x128.size (k0_off9_inb k r)).toLoadRect Xq)
    (View.readAt (Elt F) aq.view (Rect.unit (s := S112x2x256) (k0_off10 k (BitVec.ofNat 32 r.val)) S1x1x128.size (k0_off10_inb k r)).toLoadRect Xq)
    (View.readAt (Elt F) ad.view (Rect.unit (s := S14x1x256) (k0_off11 k) S1x1x128.size (k0_off11_inb k)).toLoadRect Xd) (BitVec.ofNat 32 (2 * v.val))⟩

/-- The piece of sixteen rows that trip `k` of loop 2 stores for sub-block `r`, lane half 1, row half `v`. -/
def piece2b (aq : Memref sig .tc .vmem S112x2x256 .i32) (ad : Memref sig .tc .vmem S14x1x256 .f32) (fl tlo thi tsg : IVec S8x128 32)
    (Xq : BufTy.Contents (Elt F) aq.view.ty) (Xd : BufTy.Contents (Elt F) ad.view.ty) (k : Fin k0_t2_loop.trips) (r : Fin 8) (v : Fin 2) : View.Piece (Elt F) S3584x256 .bf16 :=
  ⟨Rect.unit (s := S3584x256) (k0_off16 k (BitVec.ofNat 32 r.val) (BitVec.ofNat 32 (16 * v.val))) S16x128.size (k0_off16_inb k r v), unitV fl tlo thi tsg
    (View.readAt (Elt F) aq.view (Rect.unit (s := S112x2x256) (k0_off13 k (BitVec.ofNat 32 r.val)) S1x1x128.size (k0_off13_inb k r)).toLoadRect Xq)
    (View.readAt (Elt F) aq.view (Rect.unit (s := S112x2x256) (k0_off14 k (BitVec.ofNat 32 r.val)) S1x1x128.size (k0_off14_inb k r)).toLoadRect Xq)
    (View.readAt (Elt F) ad.view (Rect.unit (s := S14x1x256) (k0_off15 k) S1x1x128.size (k0_off15_inb k)).toLoadRect Xd) (BitVec.ofNat 32 (2 * v.val))⟩

set_option maxHeartbeats 8000000 in
/-- What one trip of loop 2 stores, last first. -/
theorem trip2_pieces (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v156 : IVec S8x128 32) (v197 : FVec F S14x256 .f32) (v246 : FVec F S1x256 .f32) (v254 : Vec F S1x8x128 .i32) (v256 : Vec F S1x8x128 .i32) (v258 : Vec F S1x8x128 .i32) (X_arg4 : BufTy.Contents (Elt F) arg4.view.ty) (X_arg9 : BufTy.Contents (Elt F) arg9.view.ty) (k : Fin k0_t2_loop.trips) : tripL_k0_t2 (F := F) 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 k = [
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 7 1,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 7 0,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 7 1,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 7 0,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 6 1,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 6 0,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 6 1,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 6 0,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 5 1,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 5 0,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 5 1,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 5 0,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 4 1,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 4 0,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 4 1,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 4 0,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 3 1,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 3 0,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 3 1,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 3 0,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 2 1,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 2 0,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 2 1,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 2 0,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 1 1,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 1 0,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 1 1,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 1 0,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 0 1,
    piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k 0 0,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 0 1,
    piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k 0 0] := by
  unfold tripL_k0_t2 trip_k0_t2
  rfl

end Cert.KernelIdeal.Body
-- ==== Proof.KernelIdeal.Unit.lean ====
module

public import proofs.«01_k».proof.Proof.KernelIdeal.Trip
public import Idealize.ShloMosaic.Lib.Pointwise
public import Idealize.ShloMosaic.Lib.Pipeline.Value

@[expose] public section

noncomputable section

namespace Cert.KernelIdeal.Body

open Gen
open Idealize.ShloMosaic Idealize.ShloMosaic.TcCoe Idealize.ShloMosaic.Tactic
variable {F : FTy → Type} [FloatOps F]

/-- The field number of row `j` is `j / 4`. -/
theorem field_apply (j : Fin 8) (l : Fin 128) : k0_pay452 (ix2 j l) = BitVec.ofNat 32 (j.val / 4) := by
  unfold k0_pay452
  dsimp only
  simp only [pointwise, List.foldl, Nat.zero_mul, Nat.zero_add]
  clear l
  revert j
  decide +kernel

/-- Lane `x mod 128`. -/
def lane (x : Nat) : Fin 128 := ⟨x % 128, Nat.mod_lt _ (by decide)⟩

/-- Masking with 127 keeps the remainder by 128. -/
theorem and127 (w : BitVec 32) : (w &&& 127#32).toNat = w.toNat % 128 := by
  rw [BitVec.toNat_and]; exact Nat.and_two_pow_sub_one_eq_mod w.toNat 7

/-- A word masked with 127 is not negative. -/
theorem and127_slt (w : BitVec 32) : IntOp.cmpi .slt (w &&& 127#32) 0#32 = 0#1 := by
  have h1 := and127 w
  have h2 : w.toNat % 128 < 128 := Nat.mod_lt _ (by decide)
  have h : (w &&& 127#32).slt 0#32 = false := by
    rw [BitVec.slt_eq_decide, BitVec.toInt_eq_toNat_of_lt (by omega)]
    simp
  simp only [IntOp.cmpi, h]; rfl

/-- Bit 7 of a word is set when its low byte is at least 128. -/
theorem and128_ne (w : BitVec 32) : IntOp.cmpi .ne (w &&& 128#32) 0#32 = BitVec.ofBool (decide (128 ≤ w.toNat % 256)) := by
  have e : w &&& 128#32 = if 128 ≤ w.toNat % 256 then 128#32 else 0#32 := by
    rw [show (128#32 : BitVec 32) = BitVec.twoPow 32 7 by decide, BitVec.and_twoPow, BitVec.getLsbD, Nat.testBit_eq_decide_div_mod_eq]
    by_cases hw : 128 ≤ w.toNat % 256
    · have : w.toNat / 2 ^ 7 % 2 = 1 := by omega
      rw [if_pos hw, if_pos (decide_eq_true this)]
    · have : ¬ w.toNat / 2 ^ 7 % 2 = 1 := by omega
      rw [if_neg hw, if_neg (by rw [decide_eq_false this]; decide)]
  rw [e]
  by_cases hw : 128 ≤ w.toNat % 256
  · rw [if_pos hw, decide_eq_true hw]; rfl
  · rw [if_neg hw, decide_eq_false hw]; rfl

/-- A gather by a word's seven low bits. -/
theorem takeW_apply (t i : IVec S8x128 32) (j : Fin 8) (l : Fin 128) (w : BitVec 32) (hi : i (ix2 j l) = w &&& 127#32) :
    takeW t i (ix2 j l) = t (ix2 j (lane w.toNat)) := by
  unfold takeW
  rw [shapeCast_shapeCast]
  refine congrArg t (funext fun a => ?_)
  match a with
  | ⟨0, _⟩ => rfl
  | ⟨1, _⟩ =>
    refine Fin.ext ?_
    show (Scalar.select (IntOp.cmpi .slt (i (ix2 j l)) 0#32) (IntOp.addi (i (ix2 j l)) 128#32) (i (ix2 j l))).toNat % 128 = w.toNat % 128
    rw [hi, and127_slt]
    show (w &&& 127#32).toNat % 128 = w.toNat % 128
    rw [and127, Nat.mod_mod]

/-- The word pair of the grid rows `2 j`, `2 j + 1` (mod 8) that field `f` of the code words selects. -/
def pairB (tlo thi tsg : IVec S8x128 32) (wa wb : BitVec 32) (f : Nat) (j : Fin 8) : BitVec 32 :=
  (if 128 ≤ (wa >>> (8 * f)).toNat % 256 then thi (ix2 j (lane (wa >>> (8 * f)).toNat)) else tlo (ix2 j (lane (wa >>> (8 * f)).toNat)))
    ^^^ tsg (ix2 j (lane (wb >>> (7 * f)).toNat))

/-- A shift by a literal below 32 is the plain right shift. -/
theorem shr_lit (x : BitVec 32) (n : Nat) (h : n < 32) : IntOp.shrui .vector x (BitVec.ofNat 32 n) = x >>> n := by
  have e : (BitVec.ofNat 32 n).toNat = n := by rw [BitVec.toNat_ofNat]; omega
  unfold IntOp.shrui
  rw [if_pos (by omega), BitVec.ushiftRight_eq', e]

/-- The field numbers down the sublanes. -/
def IsField (fl : IVec S8x128 32) : Prop := ∀ (j : Fin 8) (l : Fin 128), fl (ix2 j l) = BitVec.ofNat 32 (j.val / 4)

/-- Each packed pair of a unit is the table lookup of its lane. -/
theorem pairW_apply (fl tlo thi tsg : IVec S8x128 32) (hf : IsField fl) (wa wb : Vec F S1x1x128 .i32) (v : Fin 2) (j : Fin 8) (l : Fin 128) :
    pairW fl tlo thi tsg wa wb (BitVec.ofNat 32 (2 * v.val)) (ix2 j l)
      = pairB tlo thi tsg (wa (ix3 0 0 l)) (wb (ix3 0 0 l)) (2 * v.val + j.val / 4) j := by
  have hv := v.isLt
  have hj := j.isLt
  have e8 : IntOp.muli 8#32 (IntOp.addi (fl (ix2 j l)) (BitVec.ofNat 32 (2 * v.val))) = BitVec.ofNat 32 (8 * (2 * v.val + j.val / 4)) := by
    rw [hf]; clear hf; clear l; revert j v; decide +kernel
  have e7 : IntOp.muli 7#32 (IntOp.addi (fl (ix2 j l)) (BitVec.ofNat 32 (2 * v.val))) = BitVec.ofNat 32 (7 * (2 * v.val + j.val / 4)) := by
    rw [hf]; clear hf e8; clear l; revert j v; decide +kernel
  unfold pairW pairB
  have hA : ∀ (w : Vec F S1x1x128 .i32), broadcastTo S8x128 (shapeCast S1x128 (shapeCast S1x128 w shapeCasts_S1x1x128_S1x128) shapeCasts_S1x128_S1x128) broadcasts_S1x128_S8x128 (ix2 j l) = w (ix3 0 0 l) := by
    intro w; simp only [pointwise]; rfl
  have hi : ∀ (w : Vec F S1x1x128 .i32), shrui (broadcastTo S8x128 (shapeCast S1x128 (shapeCast S1x128 w shapeCasts_S1x1x128_S1x128) shapeCasts_S1x128_S1x128) broadcasts_S1x128_S8x128) (muli (broadcast S8x128 8#32) (addi fl (broadcast S8x128 (BitVec.ofNat 32 (2 * v.val))))) (ix2 j l) = w (ix3 0 0 l) >>> (8 * (2 * v.val + j.val / 4)) := by
    intro w
    show IntOp.shrui .vector _ (IntOp.muli 8#32 (IntOp.addi (fl (ix2 j l)) (BitVec.ofNat 32 (2 * v.val)))) = _
    rw [hA, e8, shr_lit _ _ (by omega)]
  have hc : ∀ (w : Vec F S1x1x128 .i32), shrui (broadcastTo S8x128 (shapeCast S1x128 (shapeCast S1x128 w shapeCasts_S1x1x128_S1x128) shapeCasts_S1x128_S1x128) broadcasts_S1x128_S8x128) (muli (broadcast S8x128 7#32) (addi fl (broadcast S8x128 (BitVec.ofNat 32 (2 * v.val))))) (ix2 j l) = w (ix3 0 0 l) >>> (7 * (2 * v.val + j.val / 4)) := by
    intro w
    show IntOp.shrui .vector _ (IntOp.muli 7#32 (IntOp.addi (fl (ix2 j l)) (BitVec.ofNat 32 (2 * v.val)))) = _
    rw [hA, e7, shr_lit _ _ (by omega)]
  show (Scalar.select (IntOp.cmpi .ne (_ &&& 128#32) 0#32) (takeW thi _ (ix2 j l)) (takeW tlo _ (ix2 j l))) ^^^ (takeW tsg _ (ix2 j l)) = _
  rw [takeW_apply thi _ j l _ (congrArg (· &&& 127#32) (hi wa)), takeW_apply tlo _ j l _ (congrArg (· &&& 127#32) (hi wa)),
    takeW_apply tsg _ j l _ (congrArg (· &&& 127#32) (hc wb)), hi wa, and128_ne]
  congr 1
  by_cases h : 128 ≤ (wa (ix3 0 0 l) >>> (8 * (2 * v.val + j.val / 4))).toNat % 256
  · simp only [h, decide_true]; rfl
  · simp only [h, decide_false]; rfl

/-- One weight: the chosen word of a pair as a binary32, times the sub-block's scale. -/
def cell (tlo thi tsg : IVec S8x128 32) (wa wb : BitVec 32) (d : F .f32) (f : Nat) (j : Fin 8) (odd : Bool) : F .bf16 :=
  FloatOps.truncf .bf16 (by decide) (FloatOps.mulf (FloatOps.ofBits .f32 (if odd then pairB tlo thi tsg wa wb f j &&& 4294901760#32 else pairB tlo thi tsg wa wb f j <<< 16))
    (FloatOps.mulf d (FloatOps.addf (FloatOps.sitofp .f32 (wb >>> 28)) (FloatOps.ofBits .f32 0x3F000000#32))))

/-- A unit's scale: the stored scale times the four scale bits plus one half. -/
theorem scaleV_apply (wb : Vec F S1x1x128 .i32) (d : Vec F S1x1x128 .f32) (j : Fin 8) (l : Fin 128) :
    scaleV wb d (ix2 j l) = FloatOps.mulf (d (ix3 0 0 l)) (FloatOps.addf (FloatOps.sitofp .f32 (wb (ix3 0 0 l) >>> 28)) (FloatOps.ofBits .f32 0x3F000000#32)) := by
  unfold scaleV
  simp only [pointwise]
  rw [shr_lit _ 28 (by decide)]
  rfl

/-- Interleaving two arrays by rows reads the first at even rows and the second at odd rows. -/
theorem interleave_apply {α : Type} (lo hi : S8x128.Idx → α) (r : Fin 16) (l : Fin 128) :
    interleaveRows S16x128 lo hi bitcasts_S16x128_w16_S8x128_w32 (ix2 r l)
      = if r.val % 2 = 0 then lo (ix2 ⟨r.val / 2, by omega⟩ l) else hi (ix2 ⟨r.val / 2, by omega⟩ l) := by
  unfold interleaveRows
  show (if r.val % 2 = 0 then lo _ else hi _) = _
  split
  · refine congrArg lo (funext fun a => ?_)
    match a with
    | ⟨0, _⟩ => rfl
    | ⟨1, _⟩ => rfl
  · refine congrArg hi (funext fun a => ?_)
    match a with
    | ⟨0, _⟩ => rfl
    | ⟨1, _⟩ => rfl

/-- Each element of a unit of 16 rows is the cell of its lane, field and pair. -/
theorem unitV_apply (fl tlo thi tsg : IVec S8x128 32) (hf : IsField fl) (wa wb : Vec F S1x1x128 .i32) (d : Vec F S1x1x128 .f32) (v : Fin 2) (r : Fin 16) (l : Fin 128) :
    unitV fl tlo thi tsg wa wb d (BitVec.ofNat 32 (2 * v.val)) (ix2 r l)
      = cell tlo thi tsg (wa (ix3 0 0 l)) (wb (ix3 0 0 l)) (d (ix3 0 0 l)) (2 * v.val + r.val / 2 / 4) ⟨r.val / 2, by omega⟩ (decide (r.val % 2 = 1)) := by
  unfold unitV
  rw [shapeCast_self]
  unfold cell
  rw [← pairW_apply fl tlo thi tsg hf wa wb v ⟨r.val / 2, by omega⟩ l, ← scaleV_apply wb d ⟨r.val / 2, by omega⟩ l]
  rw [interleave_apply]
  by_cases h : r.val % 2 = 0
  · rw [if_pos h]
    have h1 : ¬ r.val % 2 = 1 := by omega
    simp only [h1, decide_false]
    rfl
  · rw [if_neg h]
    have h1 : r.val % 2 = 1 := by omega
    simp only [h1, decide_true]
    rfl

end Cert.KernelIdeal.Body
-- ==== Proof.KernelIdeal.Weights.lean ====
module

public import proofs.«01_k».proof.Proof.KernelIdeal.Unit
public import Idealize.ShloMosaic.Lib.Writes

/-
The weight matrix a loop leaves in its scratch: each trip's pieces agree with one matrix, and together they cover it.
-/

@[expose] public section

set_option maxRecDepth 16384

noncomputable section

namespace Cert.KernelIdeal.Body

open Gen
open Idealize.ShloMosaic Idealize.ShloMosaic.TcCoe Idealize.ShloMosaic.Tactic
variable {F : FTy → Type} [FloatOps F]

/-- The dequantized weight at row `y`, column `n`: row `y` belongs to sub-block `y / 32`, field `y mod 32 / 8`, pair row `y mod 16 / 2`. -/
def wAt (q : Vec F S112x2x256 .i32) (d : Vec F S14x1x256 .f32) (tlo thi tsg : IVec S8x128 32) (y : Fin 3584) (n : Fin 256) : F .bf16 :=
  cell tlo thi tsg (q (ix3 ⟨y.val / 32, by omega⟩ 0 n)) (q (ix3 ⟨y.val / 32, by omega⟩ 1 n)) (d (ix3 ⟨y.val / 256, by omega⟩ 0 n))
    (y.val % 32 / 8) ⟨y.val % 16 / 2, by omega⟩ (decide (y.val % 2 = 1))

/-- The dequantized weights, one column per output column. -/
def Wt (q : Vec F S112x2x256 .i32) (d : Vec F S14x1x256 .f32) (tlo thi tsg : IVec S8x128 32) : FVec F S3584x256 .bf16 :=
  fun y => wAt q d tlo thi tsg (y 0) (y 1)

/-- Sixteen rows of a trip's store, placed by the closed forms of its offsets, agree with the weights. -/
theorem unit_agree (aq : Memref sig .tc .vmem S112x2x256 .i32) (ad : Memref sig .tc .vmem S14x1x256 .f32) (fl tlo thi tsg : IVec S8x128 32) (hf : IsField fl)
    (Xq : BufTy.Contents (Elt F) aq.view.ty) (Xd : BufTy.Contents (Elt F) ad.view.ty) (k : Fin 14) (r : Fin 8) (v h : Fin 2)
    (o : Fin 2 → Nat) (oa ob od : Fin 3 → Nat) (ho : o = ![256 * k.val + 32 * r.val + 16 * v.val, 128 * h.val])
    (hoa : oa = ![8 * k.val + r.val, 0, 128 * h.val]) (hob : ob = ![8 * k.val + r.val, 1, 128 * h.val]) (hod : od = ![k.val, 0, 128 * h.val])
    (io : ∀ a, o a + S16x128.size a ≤ S3584x256.size a) (ia : ∀ a, oa a + S1x1x128.size a ≤ S112x2x256.size a)
    (ib : ∀ a, ob a + S1x1x128.size a ≤ S112x2x256.size a) (id : ∀ a, od a + S1x1x128.size a ≤ S14x1x256.size a) (x : S16x128.Idx) :
    unitV fl tlo thi tsg
      (View.readAt (Elt F) aq.view (Rect.unit (s := S112x2x256) oa S1x1x128.size ia).toLoadRect Xq)
      (View.readAt (Elt F) aq.view (Rect.unit (s := S112x2x256) ob S1x1x128.size ib).toLoadRect Xq)
      (View.readAt (Elt F) ad.view (Rect.unit (s := S14x1x256) od S1x1x128.size id).toLoadRect Xd) (BitVec.ofNat 32 (2 * v.val)) x
    = Wt (aq.view.read (Elt F) Xq) (ad.view.read (Elt F) Xd) tlo thi tsg ((Rect.unit (s := S3584x256) o S16x128.size io).emb x) := by
  subst ho hoa hob hod
  obtain ⟨ρ, l, rfl⟩ : ∃ (ρ : Fin 16) (l : Fin 128), x = ix2 ρ l := ⟨x 0, x 1, funext fun a => by match a with | ⟨0, _⟩ => rfl | ⟨1, _⟩ => rfl⟩
  have hk := k.isLt
  have hr := r.isLt
  have hv := v.isLt
  have hρ := ρ.isLt
  have hl := l.isLt
  have hh := h.isLt
  rw [unitV_apply fl tlo thi tsg hf]
  rw [View.readAt_apply, View.readAt_apply, View.readAt_apply]
  have e0 : (((Rect.unit (s := S3584x256) _ S16x128.size io).emb (ix2 ρ l)) 0).val = 256 * k.val + 32 * r.val + 16 * v.val + ρ.val := by
    show 256 * k.val + 32 * r.val + 16 * v.val + 1 * ρ.val = _
    omega
  have e1 : (((Rect.unit (s := S3584x256) _ S16x128.size io).emb (ix2 ρ l)) 1).val = 128 * h.val + l.val := by
    show 128 * h.val + 1 * l.val = _
    omega
  unfold Wt wAt
  have c1 : (2 * v.val + ρ.val / 2 / 4) = (((Rect.unit (s := S3584x256) _ S16x128.size io).emb (ix2 ρ l)) 0).val % 32 / 8 := by rw [e0]; omega
  have c2 : ρ.val / 2 = (((Rect.unit (s := S3584x256) _ S16x128.size io).emb (ix2 ρ l)) 0).val % 16 / 2 := by rw [e0]; omega
  have c3 : (ρ.val % 2 = 1) ↔ ((((Rect.unit (s := S3584x256) _ S16x128.size io).emb (ix2 ρ l)) 0).val % 2 = 1) := by rw [e0]; omega
  have ea : (Rect.unit (s := S112x2x256) _ S1x1x128.size ia).toLoadRect.idx (ix3 0 0 l) = ix3 ⟨(((Rect.unit (s := S3584x256) _ S16x128.size io).emb (ix2 ρ l)) 0).val / 32, by omega⟩ 0 (((Rect.unit (s := S3584x256) _ S16x128.size io).emb (ix2 ρ l)) 1) := by
    funext a
    match a with
    | ⟨0, _⟩ => refine Fin.ext ?_; show 8 * k.val + r.val + 1 * 0 = (((Rect.unit (s := S3584x256) _ S16x128.size io).emb (ix2 ρ l)) 0).val / 32; rw [e0]; omega
    | ⟨1, _⟩ => rfl
    | ⟨2, _⟩ => refine Fin.ext ?_; show 128 * h.val + 1 * l.val = (((Rect.unit (s := S3584x256) _ S16x128.size io).emb (ix2 ρ l)) 1).val; rw [e1]; omega
  have eb : (Rect.unit (s := S112x2x256) _ S1x1x128.size ib).toLoadRect.idx (ix3 0 0 l) = ix3 ⟨(((Rect.unit (s := S3584x256) _ S16x128.size io).emb (ix2 ρ l)) 0).val / 32, by omega⟩ 1 (((Rect.unit (s := S3584x256) _ S16x128.size io).emb (ix2 ρ l)) 1) := by
    funext a
    match a with
    | ⟨0, _⟩ => refine Fin.ext ?_; show 8 * k.val + r.val + 1 * 0 = (((Rect.unit (s := S3584x256) _ S16x128.size io).emb (ix2 ρ l)) 0).val / 32; rw [e0]; omega
    | ⟨1, _⟩ => rfl
    | ⟨2, _⟩ => refine Fin.ext ?_; show 128 * h.val + 1 * l.val = (((Rect.unit (s := S3584x256) _ S16x128.size io).emb (ix2 ρ l)) 1).val; rw [e1]; omega
  have ed : (Rect.unit (s := S14x1x256) _ S1x1x128.size id).toLoadRect.idx (ix3 0 0 l) = ix3 ⟨(((Rect.unit (s := S3584x256) _ S16x128.size io).emb (ix2 ρ l)) 0).val / 256, by omega⟩ 0 (((Rect.unit (s := S3584x256) _ S16x128.size io).emb (ix2 ρ l)) 1) := by
    funext a
    match a with
    | ⟨0, _⟩ => refine Fin.ext ?_; show k.val + 1 * 0 = (((Rect.unit (s := S3584x256) _ S16x128.size io).emb (ix2 ρ l)) 0).val / 256; rw [e0]; omega
    | ⟨1, _⟩ => rfl
    | ⟨2, _⟩ => refine Fin.ext ?_; show 128 * h.val + 1 * l.val = (((Rect.unit (s := S3584x256) _ S16x128.size io).emb (ix2 ρ l)) 1).val; rw [e1]; omega
  rw [ea, eb, ed, c1]
  congr 1
  · exact Fin.ext c2
  · exact decide_eq_decide.mpr c3

/-- An element of the 16 rows and 128 columns at `(a, b)` lies in that rectangle. -/
theorem mem_unit_set (o : Fin 2 → Nat) (a b : Nat) (ho : o = ![a, b]) (io : ∀ a, o a + S16x128.size a ≤ S3584x256.size a) (y : Fin 3584) (l : Fin 256)
    (h1 : a ≤ y.val) (h2 : y.val < a + 16) (h3 : b ≤ l.val) (h4 : l.val < b + 128) : ix2 y l ∈ (Rect.unit (s := S3584x256) o S16x128.size io).set := by
  subst ho
  refine Rect.mem_set_unit.mpr fun c => ?_
  match c with
  | ⟨0, _⟩ => exact ⟨h1, h2⟩
  | ⟨1, _⟩ => exact ⟨h3, h4⟩

/-- A trip's thirty-two pieces are its two families, and conversely. -/
theorem mem_units {α : Type*} (fA fB : Fin 8 → Fin 2 → α) (L : List α)
    (hL : L = [fB 7 1, fB 7 0, fA 7 1, fA 7 0, fB 6 1, fB 6 0, fA 6 1, fA 6 0, fB 5 1, fB 5 0, fA 5 1, fA 5 0, fB 4 1, fB 4 0, fA 4 1, fA 4 0,
      fB 3 1, fB 3 0, fA 3 1, fA 3 0, fB 2 1, fB 2 0, fA 2 1, fA 2 0, fB 1 1, fB 1 0, fA 1 1, fA 1 0, fB 0 1, fB 0 0, fA 0 1, fA 0 0]) :
    (∀ r v, fA r v ∈ L ∧ fB r v ∈ L) ∧ ∀ p ∈ L, ∃ r v, p = fA r v ∨ p = fB r v := by
  subst hL
  constructor
  · intro r v
    fin_cases r <;> fin_cases v <;> simp
  · intro p hp
    simp only [List.mem_cons, List.not_mem_nil, or_false] at hp
    rcases hp with h | h | h | h | h | h | h | h | h | h | h | h | h | h | h | h | h | h | h | h | h | h | h | h | h | h | h | h | h | h | h | h
    all_goals first | exact ⟨_, _, Or.inl h⟩ | exact ⟨_, _, Or.inr h⟩

/-- The gate loop runs 14 times. -/
theorem trips1 : k0_t1_loop.trips = 14 := by decide +kernel

/-- Every piece of the first `n` trips of loop 1 agrees with the weights. -/
theorem agree1 (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v27 : IVec S8x128 32) (v68 : FVec F S14x256 .f32) (v109 : FVec F S1x256 .f32) (v125 : Vec F S1x8x128 .i32) (v127 : Vec F S1x8x128 .i32) (v129 : Vec F S1x8x128 .i32) (X_arg2 : BufTy.Contents (Elt F) arg2.view.ty) (X_arg9 : BufTy.Contents (Elt F) arg9.view.ty) (hf : IsField v27) : ∀ n : ℕ, n ≤ k0_t1_loop.trips → ∀ p ∈ pb_k0_t1 (F := F) 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 n, ∀ x : p.1.shape.Idx,
    p.2 x = Wt (arg2.view.read (Elt F) X_arg2) (arg9.view.read (Elt F) X_arg9) (shapeCast S8x128 v125 shapeCasts_S1x8x128_S8x128) (shapeCast S8x128 v127 shapeCasts_S1x8x128_S8x128) (shapeCast S8x128 v129 shapeCasts_S1x8x128_S8x128) (p.1.emb x)
  | 0, _, p, hp, _ => by rw [pb_k0_t1] at hp; exact absurd hp List.not_mem_nil
  | n + 1, hn, p, hp, x => by
    rw [pb_k0_t1_succ 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 ⟨n, hn⟩] at hp
    rcases List.mem_append.mp hp with h | h
    · have hk14 : n < 14 := trips1 ▸ hn
      obtain ⟨r, v, h | h⟩ := (mem_units (fun r v => piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 ⟨n, hn⟩ r v) (fun r v => piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 ⟨n, hn⟩ r v) _ (trip1_pieces 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 ⟨n, hn⟩)).2 p h
      · subst h
        exact unit_agree arg2 arg9 v27 _ _ _ hf X_arg2 X_arg9 ⟨n, hk14⟩ r v 0 _ _ _ _ (k0_off4_eq ⟨n, hn⟩ r v) (k0_off1_eq ⟨n, hn⟩ r) (k0_off2_eq ⟨n, hn⟩ r) (k0_off3_eq ⟨n, hn⟩) (k0_off4_inb ⟨n, hn⟩ r v) (k0_off1_inb ⟨n, hn⟩ r) (k0_off2_inb ⟨n, hn⟩ r) (k0_off3_inb ⟨n, hn⟩) x
      · subst h
        exact unit_agree arg2 arg9 v27 _ _ _ hf X_arg2 X_arg9 ⟨n, hk14⟩ r v 1 _ _ _ _ (k0_off8_eq ⟨n, hn⟩ r v) (k0_off5_eq ⟨n, hn⟩ r) (k0_off6_eq ⟨n, hn⟩ r) (k0_off7_eq ⟨n, hn⟩) (k0_off8_inb ⟨n, hn⟩ r v) (k0_off5_inb ⟨n, hn⟩ r) (k0_off6_inb ⟨n, hn⟩ r) (k0_off7_inb ⟨n, hn⟩) x
    · exact agree1 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 hf n (by omega) p h x

/-- A trip's pieces are among those of the trips up to it. -/
theorem among1 (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v27 : IVec S8x128 32) (v68 : FVec F S14x256 .f32) (v109 : FVec F S1x256 .f32) (v125 : Vec F S1x8x128 .i32) (v127 : Vec F S1x8x128 .i32) (v129 : Vec F S1x8x128 .i32) (X_arg2 : BufTy.Contents (Elt F) arg2.view.ty) (X_arg9 : BufTy.Contents (Elt F) arg9.view.ty) (k : Fin k0_t1_loop.trips) (p : View.Piece (Elt F) S3584x256 .bf16) (hp : p ∈ tripL_k0_t1 (F := F) 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 k) :
    ∀ n : ℕ, k.val < n → n ≤ k0_t1_loop.trips → p ∈ pb_k0_t1 (F := F) 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 n
  | 0, h, _ => absurd h (Nat.not_lt_zero _)
  | n + 1, h, hn => by
    rw [pb_k0_t1_succ 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 ⟨n, hn⟩]
    by_cases e : k.val = n
    · have : k = ⟨n, hn⟩ := Fin.ext e
      subst this
      exact List.mem_append_left _ hp
    · exact List.mem_append_right _ (among1 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 k p hp n (by omega) (by omega))

/-- After loop 1 its scratch reads the weights, whatever it held. -/
theorem weights1 (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v27 : IVec S8x128 32) (v68 : FVec F S14x256 .f32) (v109 : FVec F S1x256 .f32) (v125 : Vec F S1x8x128 .i32) (v127 : Vec F S1x8x128 .i32) (v129 : Vec F S1x8x128 .i32) (X_arg2 : BufTy.Contents (Elt F) arg2.view.ty) (X_arg9 : BufTy.Contents (Elt F) arg9.view.ty) (hf : IsField v27) (G : BufTy.Contents (Elt F) arg10.view.ty) :
    arg10.view.read (Elt F) (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 k0_t1_loop.trips)) = Wt (arg2.view.read (Elt F) X_arg2) (arg9.view.read (Elt F) X_arg9) (shapeCast S8x128 v125 shapeCasts_S1x8x128_S8x128) (shapeCast S8x128 v127 shapeCasts_S1x8x128_S8x128) (shapeCast S8x128 v129 shapeCasts_S1x8x128_S8x128) := by
  funext yy
  refine View.read_writes_apply_of_pieces _ _ _ _ (agree1 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 hf _ (le_refl _)) yy ?_
  obtain ⟨y, l, rfl⟩ : ∃ (y : Fin 3584) (l : Fin 256), yy = ix2 y l := ⟨yy 0, yy 1, funext fun a => by match a with | ⟨0, _⟩ => rfl | ⟨1, _⟩ => rfl⟩
  have hy := y.isLt
  have hl := l.isLt
  let k : Fin k0_t1_loop.trips := ⟨y.val / 256, by rw [trips1]; omega⟩
  let r : Fin 8 := ⟨y.val % 256 / 32, by omega⟩
  let v : Fin 2 := ⟨y.val % 32 / 16, by omega⟩
  by_cases hc : l.val < 128
  · have hm := among1 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 k _ ((mem_units (fun r v => piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k r v) (fun r v => piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k r v) _ (trip1_pieces 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 k)).1 r v).1 _ k.isLt (le_refl _)
    refine ⟨_, hm, ?_⟩
    exact mem_unit_set _ _ _ (k0_off4_eq k r v) (k0_off4_inb k r v) y l (by show 256 * (y.val / 256) + 32 * (y.val % 256 / 32) + 16 * (y.val % 32 / 16) ≤ y.val; omega)
      (by show y.val < 256 * (y.val / 256) + 32 * (y.val % 256 / 32) + 16 * (y.val % 32 / 16) + 16; omega) (by omega) (by omega)
  · have hm := among1 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 k _ ((mem_units (fun r v => piece1a arg2 arg9 v27 (shapeCast S8x128 v125 shapeCasts_S1x8x128_S8x128) (shapeCast S8x128 v127 shapeCasts_S1x8x128_S8x128) (shapeCast S8x128 v129 shapeCasts_S1x8x128_S8x128) X_arg2 X_arg9 k r v) (fun r v => piece1b arg2 arg9 v27 (shapeCast S8x128 v125 shapeCasts_S1x8x128_S8x128) (shapeCast S8x128 v127 shapeCasts_S1x8x128_S8x128) (shapeCast S8x128 v129 shapeCasts_S1x8x128_S8x128) X_arg2 X_arg9 k r v) _ (trip1_pieces 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 k)).1 r v).2 _ k.isLt (le_refl _)
    refine ⟨_, hm, ?_⟩
    exact mem_unit_set _ _ _ (k0_off8_eq k r v) (k0_off8_inb k r v) y l (by show 256 * (y.val / 256) + 32 * (y.val % 256 / 32) + 16 * (y.val % 32 / 16) ≤ y.val; omega)
      (by show y.val < 256 * (y.val / 256) + 32 * (y.val % 256 / 32) + 16 * (y.val % 32 / 16) + 16; omega) (by omega) (by omega)

/-- The up loop runs 14 times. -/
theorem trips2 : k0_t2_loop.trips = 14 := by decide +kernel

/-- Every piece of the first `n` trips of loop 2 agrees with the weights. -/
theorem agree2 (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v156 : IVec S8x128 32) (v197 : FVec F S14x256 .f32) (v246 : FVec F S1x256 .f32) (v254 : Vec F S1x8x128 .i32) (v256 : Vec F S1x8x128 .i32) (v258 : Vec F S1x8x128 .i32) (X_arg4 : BufTy.Contents (Elt F) arg4.view.ty) (X_arg9 : BufTy.Contents (Elt F) arg9.view.ty) (hf : IsField v156) : ∀ n : ℕ, n ≤ k0_t2_loop.trips → ∀ p ∈ pb_k0_t2 (F := F) 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 n, ∀ x : p.1.shape.Idx,
    p.2 x = Wt (arg4.view.read (Elt F) X_arg4) (arg9.view.read (Elt F) X_arg9) (shapeCast S8x128 v254 shapeCasts_S1x8x128_S8x128) (shapeCast S8x128 v256 shapeCasts_S1x8x128_S8x128) (shapeCast S8x128 v258 shapeCasts_S1x8x128_S8x128) (p.1.emb x)
  | 0, _, p, hp, _ => by rw [pb_k0_t2] at hp; exact absurd hp List.not_mem_nil
  | n + 1, hn, p, hp, x => by
    rw [pb_k0_t2_succ 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 ⟨n, hn⟩] at hp
    rcases List.mem_append.mp hp with h | h
    · have hk14 : n < 14 := trips2 ▸ hn
      obtain ⟨r, v, h | h⟩ := (mem_units (fun r v => piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 ⟨n, hn⟩ r v) (fun r v => piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 ⟨n, hn⟩ r v) _ (trip2_pieces 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 ⟨n, hn⟩)).2 p h
      · subst h
        exact unit_agree arg4 arg9 v156 _ _ _ hf X_arg4 X_arg9 ⟨n, hk14⟩ r v 0 _ _ _ _ (k0_off12_eq ⟨n, hn⟩ r v) (k0_off9_eq ⟨n, hn⟩ r) (k0_off10_eq ⟨n, hn⟩ r) (k0_off11_eq ⟨n, hn⟩) (k0_off12_inb ⟨n, hn⟩ r v) (k0_off9_inb ⟨n, hn⟩ r) (k0_off10_inb ⟨n, hn⟩ r) (k0_off11_inb ⟨n, hn⟩) x
      · subst h
        exact unit_agree arg4 arg9 v156 _ _ _ hf X_arg4 X_arg9 ⟨n, hk14⟩ r v 1 _ _ _ _ (k0_off16_eq ⟨n, hn⟩ r v) (k0_off13_eq ⟨n, hn⟩ r) (k0_off14_eq ⟨n, hn⟩ r) (k0_off15_eq ⟨n, hn⟩) (k0_off16_inb ⟨n, hn⟩ r v) (k0_off13_inb ⟨n, hn⟩ r) (k0_off14_inb ⟨n, hn⟩ r) (k0_off15_inb ⟨n, hn⟩) x
    · exact agree2 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 hf n (by omega) p h x

/-- A trip's pieces are among those of the trips up to it. -/
theorem among2 (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v156 : IVec S8x128 32) (v197 : FVec F S14x256 .f32) (v246 : FVec F S1x256 .f32) (v254 : Vec F S1x8x128 .i32) (v256 : Vec F S1x8x128 .i32) (v258 : Vec F S1x8x128 .i32) (X_arg4 : BufTy.Contents (Elt F) arg4.view.ty) (X_arg9 : BufTy.Contents (Elt F) arg9.view.ty) (k : Fin k0_t2_loop.trips) (p : View.Piece (Elt F) S3584x256 .bf16) (hp : p ∈ tripL_k0_t2 (F := F) 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 k) :
    ∀ n : ℕ, k.val < n → n ≤ k0_t2_loop.trips → p ∈ pb_k0_t2 (F := F) 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 n
  | 0, h, _ => absurd h (Nat.not_lt_zero _)
  | n + 1, h, hn => by
    rw [pb_k0_t2_succ 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 ⟨n, hn⟩]
    by_cases e : k.val = n
    · have : k = ⟨n, hn⟩ := Fin.ext e
      subst this
      exact List.mem_append_left _ hp
    · exact List.mem_append_right _ (among2 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 k p hp n (by omega) (by omega))

/-- After loop 2 its scratch reads the weights, whatever it held. -/
theorem weights2 (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v156 : IVec S8x128 32) (v197 : FVec F S14x256 .f32) (v246 : FVec F S1x256 .f32) (v254 : Vec F S1x8x128 .i32) (v256 : Vec F S1x8x128 .i32) (v258 : Vec F S1x8x128 .i32) (X_arg4 : BufTy.Contents (Elt F) arg4.view.ty) (X_arg9 : BufTy.Contents (Elt F) arg9.view.ty) (hf : IsField v156) (G : BufTy.Contents (Elt F) arg11.view.ty) :
    arg11.view.read (Elt F) (arg11.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 k0_t2_loop.trips)) = Wt (arg4.view.read (Elt F) X_arg4) (arg9.view.read (Elt F) X_arg9) (shapeCast S8x128 v254 shapeCasts_S1x8x128_S8x128) (shapeCast S8x128 v256 shapeCasts_S1x8x128_S8x128) (shapeCast S8x128 v258 shapeCasts_S1x8x128_S8x128) := by
  funext yy
  refine View.read_writes_apply_of_pieces _ _ _ _ (agree2 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 hf _ (le_refl _)) yy ?_
  obtain ⟨y, l, rfl⟩ : ∃ (y : Fin 3584) (l : Fin 256), yy = ix2 y l := ⟨yy 0, yy 1, funext fun a => by match a with | ⟨0, _⟩ => rfl | ⟨1, _⟩ => rfl⟩
  have hy := y.isLt
  have hl := l.isLt
  let k : Fin k0_t2_loop.trips := ⟨y.val / 256, by rw [trips2]; omega⟩
  let r : Fin 8 := ⟨y.val % 256 / 32, by omega⟩
  let v : Fin 2 := ⟨y.val % 32 / 16, by omega⟩
  by_cases hc : l.val < 128
  · have hm := among2 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 k _ ((mem_units (fun r v => piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k r v) (fun r v => piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k r v) _ (trip2_pieces 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 k)).1 r v).1 _ k.isLt (le_refl _)
    refine ⟨_, hm, ?_⟩
    exact mem_unit_set _ _ _ (k0_off12_eq k r v) (k0_off12_inb k r v) y l (by show 256 * (y.val / 256) + 32 * (y.val % 256 / 32) + 16 * (y.val % 32 / 16) ≤ y.val; omega)
      (by show y.val < 256 * (y.val / 256) + 32 * (y.val % 256 / 32) + 16 * (y.val % 32 / 16) + 16; omega) (by omega) (by omega)
  · have hm := among2 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 k _ ((mem_units (fun r v => piece2a arg4 arg9 v156 (shapeCast S8x128 v254 shapeCasts_S1x8x128_S8x128) (shapeCast S8x128 v256 shapeCasts_S1x8x128_S8x128) (shapeCast S8x128 v258 shapeCasts_S1x8x128_S8x128) X_arg4 X_arg9 k r v) (fun r v => piece2b arg4 arg9 v156 (shapeCast S8x128 v254 shapeCasts_S1x8x128_S8x128) (shapeCast S8x128 v256 shapeCasts_S1x8x128_S8x128) (shapeCast S8x128 v258 shapeCasts_S1x8x128_S8x128) X_arg4 X_arg9 k r v) _ (trip2_pieces 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 k)).1 r v).2 _ k.isLt (le_refl _)
    refine ⟨_, hm, ?_⟩
    exact mem_unit_set _ _ _ (k0_off16_eq k r v) (k0_off16_inb k r v) y l (by show 256 * (y.val / 256) + 32 * (y.val % 256 / 32) + 16 * (y.val % 32 / 16) ≤ y.val; omega)
      (by show y.val < 256 * (y.val / 256) + 32 * (y.val % 256 / 32) + 16 * (y.val % 32 / 16) + 16; omega) (by omega) (by omega)

end Cert.KernelIdeal.Body
-- ==== Proof.KernelIdeal.Value.lean ====
module

public import proofs.«01_k».proof.Proof.KernelIdeal.Weights
public import proofs.«01_k».proof.Proof.KernelIdeal.Frame
public import Idealize.ShloMosaic.Lib.VecWindow

/-
The body's run with its values: the table scratch holds the packed grid words once built, and the output block is a function of the input blocks.
-/

@[expose] public section

set_option maxRecDepth 16384

noncomputable section

namespace Cert.KernelIdeal.Val

open Gen
open Body hiding frame dats A_eq after0_0 after0_1 after0_2 after0_3 after0_4 after0_5 before0_0 before0_1 before0_2 before0_3 before0_4 before0_5 bodyPre bodyPost sound_body body_obligation run_main_quiescent run_main unchanged
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sign words, one per code. -/
def signWords : Vec F S1x8x128 .i32 := k0_pay451 (iota .tc S8x128 32 [1] iota_S8x128_d1_w32) k0_pay5 k0_pay6

/-- The table scratch once built: the pair words of the grid's two halves, and the sign words. -/
def tab (x5 : Vec F S8x256 .i8) : Vec F S3x8x128 .i32 := fun y =>
  if (y 0).val = 0 then k0_pay3 x5 (ix3 0 (y 1) (y 2)) else if (y 0).val = 1 then k0_pay4 x5 (ix3 0 (y 1) (y 2)) else signWords (F := F) (ix3 0 (y 1) (y 2))

/-- The scales of the gate weights, a quarter of the sub-block's factor, as rows. -/
def dGate (x2 : Vec F S14x256 .i16) : Vec F S14x1x256 .f32 := fun y =>
  k0_pay457 (k0_pay454 x2) (k0_pay455 x2) (k0_pay456 x2) 13#32 (ix2 (y 0) (y 2))

/-- The scales of the up weights likewise. -/
def dUp (x4 : Vec F S14x256 .i16) : Vec F S14x1x256 .f32 := fun y =>
  k0_pay488 (k0_pay482 x4) (k0_pay484 x4) (k0_pay485 x4) (k0_pay486 x4) (k0_pay487 x4) (Scalar.ofBits .f32 0x33800000#32) (ix2 (y 0) (y 2))

/-- The dequantized weights from the words, the scales and the grid. -/
def wOf (q : Vec F S112x2x256 .i32) (d : Vec F S14x1x256 .f32) (x5 : Vec F S8x256 .i8) : FVec F S3584x256 .bf16 :=
  Wt q d (shapeCast S8x128 (k0_pay3 x5) shapeCasts_S1x8x128_S8x128) (shapeCast S8x128 (k0_pay4 x5) shapeCasts_S1x8x128_S8x128)
    (shapeCast S8x128 (signWords (F := F)) shapeCasts_S1x8x128_S8x128)

/-- The output block as a function of the input blocks. -/
def outVal (x0 : Vec F S1536x3584 .bf16) (x1 : Vec F S112x2x256 .i32) (x2 : Vec F S14x256 .i16) (x3 : Vec F S112x2x256 .i32) (x4 : Vec F S14x256 .i16) (x5 : Vec F S8x256 .i8) : FVec F S1536x256 .bf16 :=
  k0_pay1 (k0_pay508 x0 (wOf x1 (dGate x2) x5) x0 (wOf x3 (dUp x4) x5))

/-- The field numbers of the gate loop are the row over four. -/
theorem field_first : IsField k0_pay452 := field_apply

/-- The field numbers of the up loop are the row over four. -/
theorem field_second : IsField (k0_pay480 (iota .tc S8x128 32 [0] iota_S8x128_d0_w32) 4#32 k0_pay477 k0_pay478 k0_pay479) := fun j l => by
  unfold k0_pay480 k0_pay477 k0_pay478 k0_pay479
  dsimp only
  simp only [pointwise, List.foldl, Nat.zero_mul, Nat.zero_add]
  clear l
  revert j
  decide +kernel

/-- Loading slab 0 of the tables gives the packed words of the first half of the grid. -/
theorem tab_slab0 (a : Memref sig .tc .vmem S3x8x128 .i32) (X : BufTy.Contents (Elt F) a.view.ty) (x5 : Vec F S8x256 .i8) (h : a.view.read (Elt F) X = tab x5)
    (inb : ∀ c, (![0, 0, 0] : Fin 3 → Nat) c + S1x8x128.size c ≤ S3x8x128.size c) :
    View.readAt (Elt F) a.view (Rect.unit (s := S3x8x128) ![0, 0, 0] S1x8x128.size inb).toLoadRect X = k0_pay3 x5 := by
  funext x
  rw [View.readAt_apply, h]
  obtain ⟨i, j, l, rfl⟩ : ∃ (i : Fin 1) (j : Fin 8) (l : Fin 128), x = ix3 i j l := ⟨x 0, x 1, x 2, funext fun a => by match a with | ⟨0, _⟩ => rfl | ⟨1, _⟩ => rfl | ⟨2, _⟩ => rfl⟩
  obtain rfl : i = 0 := Subsingleton.elim _ _
  have e : (Rect.unit (s := S3x8x128) ![0, 0, 0] S1x8x128.size inb).toLoadRect.idx (ix3 0 j l) = ix3 0 j l := funext fun a => by
    match a with
    | ⟨0, _⟩ => rfl
    | ⟨1, _⟩ => exact Fin.ext (show 0 + 1 * j.val = j.val by omega)
    | ⟨2, _⟩ => exact Fin.ext (show 0 + 1 * l.val = l.val by omega)
  rw [e]
  rfl

/-- Loading slab 1 of the tables gives the packed words of the second half of the grid. -/
theorem tab_slab1 (a : Memref sig .tc .vmem S3x8x128 .i32) (X : BufTy.Contents (Elt F) a.view.ty) (x5 : Vec F S8x256 .i8) (h : a.view.read (Elt F) X = tab x5)
    (inb : ∀ c, (![1, 0, 0] : Fin 3 → Nat) c + S1x8x128.size c ≤ S3x8x128.size c) :
    View.readAt (Elt F) a.view (Rect.unit (s := S3x8x128) ![1, 0, 0] S1x8x128.size inb).toLoadRect X = k0_pay4 x5 := by
  funext x
  rw [View.readAt_apply, h]
  obtain ⟨i, j, l, rfl⟩ : ∃ (i : Fin 1) (j : Fin 8) (l : Fin 128), x = ix3 i j l := ⟨x 0, x 1, x 2, funext fun a => by match a with | ⟨0, _⟩ => rfl | ⟨1, _⟩ => rfl | ⟨2, _⟩ => rfl⟩
  obtain rfl : i = 0 := Subsingleton.elim _ _
  have e : (Rect.unit (s := S3x8x128) ![1, 0, 0] S1x8x128.size inb).toLoadRect.idx (ix3 0 j l) = ix3 1 j l := funext fun a => by
    match a with
    | ⟨0, _⟩ => rfl
    | ⟨1, _⟩ => exact Fin.ext (show 0 + 1 * j.val = j.val by omega)
    | ⟨2, _⟩ => exact Fin.ext (show 0 + 1 * l.val = l.val by omega)
  rw [e]
  rfl

/-- Loading slab 2 of the tables gives the sign words. -/
theorem tab_slab2 (a : Memref sig .tc .vmem S3x8x128 .i32) (X : BufTy.Contents (Elt F) a.view.ty) (x5 : Vec F S8x256 .i8) (h : a.view.read (Elt F) X = tab x5)
    (inb : ∀ c, (![2, 0, 0] : Fin 3 → Nat) c + S1x8x128.size c ≤ S3x8x128.size c) :
    View.readAt (Elt F) a.view (Rect.unit (s := S3x8x128) ![2, 0, 0] S1x8x128.size inb).toLoadRect X = signWords (F := F) := by
  funext x
  rw [View.readAt_apply, h]
  obtain ⟨i, j, l, rfl⟩ : ∃ (i : Fin 1) (j : Fin 8) (l : Fin 128), x = ix3 i j l := ⟨x 0, x 1, x 2, funext fun a => by match a with | ⟨0, _⟩ => rfl | ⟨1, _⟩ => rfl | ⟨2, _⟩ => rfl⟩
  obtain rfl : i = 0 := Subsingleton.elim _ _
  have e : (Rect.unit (s := S3x8x128) ![2, 0, 0] S1x8x128.size inb).toLoadRect.idx (ix3 0 j l) = ix3 2 j l := funext fun a => by
    match a with
    | ⟨0, _⟩ => rfl
    | ⟨1, _⟩ => exact Fin.ext (show 0 + 1 * j.val = j.val by omega)
    | ⟨2, _⟩ => exact Fin.ext (show 0 + 1 * l.val = l.val by omega)
  rw [e]
  rfl

/-- An index lies in the slab of its first coordinate. -/
theorem slab_mem (k : Nat) (inb : ∀ c, (![k, 0, 0] : Fin 3 → Nat) c + S1x8x128.size c ≤ S3x8x128.size c) (y : S3x8x128.Idx) (hy : (y 0).val = k) :
    y ∈ (Rect.unit (s := S3x8x128) ![k, 0, 0] S1x8x128.size inb).set := by
  have h1 := (y 1).isLt
  have h2 := (y 2).isLt
  refine (Rect.mem_set_unit (inb := inb)).mpr fun a => ?_
  match a with
  | ⟨0, _⟩ => exact ⟨hy.ge, show (y 0).val < k + 1 by omega⟩
  | ⟨1, _⟩ => exact ⟨Nat.zero_le _, (Nat.zero_add _).symm ▸ h1⟩
  | ⟨2, _⟩ => exact ⟨Nat.zero_le _, (Nat.zero_add _).symm ▸ h2⟩

/-- The three stores of the table leave it. -/
theorem tab_read (a : Memref sig .tc .vmem S3x8x128 .i32) (f : BufTy.Contents (Elt F) a.view.ty) (x5 g : Vec F S8x256 .i8) (hg : g = x5) :
    a.view.read (Elt F) (a.view.writes (Elt F) f
      [⟨Rect.unit (s := S3x8x128) ![2, 0, 0] S1x8x128.size inb_S3x8x128_S1x8x128_2_0_0, signWords (F := F)⟩,
       ⟨Rect.unit (s := S3x8x128) ![1, 0, 0] S1x8x128.size inb_S3x8x128_S1x8x128_1_0_0, k0_pay4 g⟩,
       ⟨Rect.unit (s := S3x8x128) ![0, 0, 0] S1x8x128.size inb_S3x8x128_S1x8x128_0_0_0, k0_pay3 g⟩]) = tab x5 := by
  subst hg
  funext y
  obtain ⟨i, j, l, rfl⟩ : ∃ (i : Fin 3) (j : Fin 8) (l : Fin 128), y = ix3 i j l := ⟨y 0, y 1, y 2, funext fun a => by match a with | ⟨0, _⟩ => rfl | ⟨1, _⟩ => rfl | ⟨2, _⟩ => rfl⟩
  refine View.read_writes_apply_of_pieces _ _ _ _ ?_ _ ?_
  · intro p hp x
    simp only [List.mem_cons, List.not_mem_nil, or_false] at hp
    rcases hp with rfl | rfl | rfl
    all_goals
      obtain ⟨i, j, l, rfl⟩ : ∃ (i : Fin 1) (j : Fin 8) (l : Fin 128), x = ix3 i j l := ⟨x 0, x 1, x 2, funext fun a => by match a with | ⟨0, _⟩ => rfl | ⟨1, _⟩ => rfl | ⟨2, _⟩ => rfl⟩
      obtain rfl : i = 0 := Subsingleton.elim _ _
      simp only [tab]
      refine (congrArg _ (funext fun a => ?_)).trans (b := _) rfl
      match a with
      | ⟨0, _⟩ => rfl
      | ⟨1, _⟩ => exact Fin.ext (show j.val = 0 + 1 * j.val by omega)
      | ⟨2, _⟩ => exact Fin.ext (show l.val = 0 + 1 * l.val by omega)
  · have hj := j.isLt
    have hl := l.isLt
    match i with
    | ⟨0, _⟩ => exact ⟨_, List.mem_cons_of_mem _ (List.mem_cons_of_mem _ List.mem_cons_self), slab_mem 0 inb_S3x8x128_S1x8x128_0_0_0 _ rfl⟩
    | ⟨1, _⟩ => exact ⟨_, List.mem_cons_of_mem _ List.mem_cons_self, slab_mem 1 inb_S3x8x128_S1x8x128_1_0_0 _ rfl⟩
    | ⟨2, _⟩ => exact ⟨_, List.mem_cons_self, slab_mem 2 inb_S3x8x128_S1x8x128_2_0_0 _ rfl⟩

/-- Row `k` of a matrix of scales, element by element. -/
theorem row_apply (v : FVec F S14x256 .f32) (k : Nat) (hk : k < 14) (h : S14x256.Slices ![k, 0] S1x256) (l : Fin 256) :
    shapeCast S1x1x256 (extractStridedSlice S1x256 ![k, 0] v h) shapeCasts_S1x256_S1x1x256 (ix3 0 0 l) = v (ix2 ⟨k, hk⟩ l) := by
  simp only [pointwise]
  refine congrArg v (funext fun a => ?_)
  match a with
  | ⟨0, _⟩ => rfl
  | ⟨1, _⟩ => exact Fin.ext (show 0 + l.val = l.val by omega)

/-- A matrix of scales as the scratch keeps it. -/
def rowsOf (v : FVec F S14x256 .f32) : Vec F S14x1x256 .f32 := fun y => v (ix2 (y 0) (y 2))

/-- Row `k` of a matrix of scales, stored as row `k` of the scratch. -/
abbrev rowPiece (v : FVec F S14x256 .f32) (k : Nat) (inb : ∀ c, (![k, 0, 0] : Fin 3 → Nat) c + S1x1x256.size c ≤ S14x1x256.size c) (h : S14x256.Slices ![k, 0] S1x256) :
    View.Piece (Elt F) S14x1x256 .f32 :=
  ⟨Rect.unit (s := S14x1x256) ![k, 0, 0] S1x1x256.size inb, shapeCast S1x1x256 (extractStridedSlice S1x256 ![k, 0] v h) shapeCasts_S1x256_S1x1x256⟩

/-- A stored row agrees with the matrix of scales. -/
theorem rowPiece_agree (v : FVec F S14x256 .f32) (k : Nat) (hk : k < 14) (inb) (h) (x : S1x1x256.Idx) :
    (rowPiece v k inb h).2 x = rowsOf v ((rowPiece v k inb h).1.emb x) := by
  obtain ⟨i, j, l, rfl⟩ : ∃ (i : Fin 1) (j : Fin 1) (l : Fin 256), x = ix3 i j l := ⟨x 0, x 1, x 2, funext fun a => by match a with | ⟨0, _⟩ => rfl | ⟨1, _⟩ => rfl | ⟨2, _⟩ => rfl⟩
  obtain rfl : i = 0 := Subsingleton.elim _ _
  obtain rfl : j = 0 := Subsingleton.elim _ _
  refine (row_apply v k hk h l).trans (congrArg v (funext fun a => ?_))
  match a with
  | ⟨0, _⟩ => exact Fin.ext (show k = k + 1 * 0 by omega)
  | ⟨1, _⟩ => exact Fin.ext (show l.val = 0 + 1 * l.val by omega)

/-- An index lies in the stored row of its first coordinate. -/
theorem rowPiece_mem (v : FVec F S14x256 .f32) (k : Nat) (inb) (h) (y : S14x1x256.Idx) (hy : (y 0).val = k) : y ∈ (rowPiece v k inb h).1.set := by
  have h1 := (y 1).isLt
  have h2 := (y 2).isLt
  refine (Rect.mem_set_unit (inb := inb)).mpr fun a => ?_
  match a with
  | ⟨0, _⟩ => exact ⟨hy.ge, show (y 0).val < k + 1 by omega⟩
  | ⟨1, _⟩ => exact ⟨Nat.zero_le _, (Nat.zero_add _).symm ▸ h1⟩
  | ⟨2, _⟩ => exact ⟨Nat.zero_le _, (Nat.zero_add _).symm ▸ h2⟩

/-- The rows stored one by one leave the matrix of scales, over anything. -/
theorem rows_read (a : Memref sig .tc .vmem S14x1x256 .f32) (f : BufTy.Contents (Elt F) a.view.ty) (v : FVec F S14x256 .f32) (L : List (View.Piece (Elt F) S14x1x256 .f32)) :
    a.view.read (Elt F) (a.view.writes (Elt F) f ([rowPiece v 13 inb_S14x1x256_S1x1x256_13_0_0 slices_S14x256_o13_0_S1x256,
      rowPiece v 12 inb_S14x1x256_S1x1x256_12_0_0 slices_S14x256_o12_0_S1x256,
      rowPiece v 11 inb_S14x1x256_S1x1x256_11_0_0 slices_S14x256_o11_0_S1x256,
      rowPiece v 10 inb_S14x1x256_S1x1x256_10_0_0 slices_S14x256_o10_0_S1x256,
      rowPiece v 9 inb_S14x1x256_S1x1x256_9_0_0 slices_S14x256_o9_0_S1x256,
      rowPiece v 8 inb_S14x1x256_S1x1x256_8_0_0 slices_S14x256_o8_0_S1x256,
      rowPiece v 7 inb_S14x1x256_S1x1x256_7_0_0 slices_S14x256_o7_0_S1x256,
      rowPiece v 6 inb_S14x1x256_S1x1x256_6_0_0 slices_S14x256_o6_0_S1x256,
      rowPiece v 5 inb_S14x1x256_S1x1x256_5_0_0 slices_S14x256_o5_0_S1x256,
      rowPiece v 4 inb_S14x1x256_S1x1x256_4_0_0 slices_S14x256_o4_0_S1x256,
      rowPiece v 3 inb_S14x1x256_S1x1x256_3_0_0 slices_S14x256_o3_0_S1x256,
      rowPiece v 2 inb_S14x1x256_S1x1x256_2_0_0 slices_S14x256_o2_0_S1x256,
      rowPiece v 1 inb_S14x1x256_S1x1x256_1_0_0 slices_S14x256_o1_0_S1x256,
      rowPiece v 0 inb_S14x1x256_S1x1x256_0_0_0 slices_S14x256_o0_0_S1x256] ++ L)) = rowsOf v := by
  rw [View.writes_append]
  funext y
  refine View.read_writes_apply_of_pieces _ _ (rowsOf v) _ ?_ _ ?_
  · intro p hp x
    simp only [List.mem_cons, List.not_mem_nil, or_false] at hp
    rcases hp with rfl | rfl | rfl | rfl | rfl | rfl | rfl | rfl | rfl | rfl | rfl | rfl | rfl | rfl
    all_goals exact rowPiece_agree v _ (by decide) _ _ x
  · have h := (y 0).isLt
    have : ∀ k : Fin 14, (y 0).val = k.val → ∃ p ∈ ([rowPiece v 13 inb_S14x1x256_S1x1x256_13_0_0 slices_S14x256_o13_0_S1x256,
      rowPiece v 12 inb_S14x1x256_S1x1x256_12_0_0 slices_S14x256_o12_0_S1x256,
      rowPiece v 11 inb_S14x1x256_S1x1x256_11_0_0 slices_S14x256_o11_0_S1x256,
      rowPiece v 10 inb_S14x1x256_S1x1x256_10_0_0 slices_S14x256_o10_0_S1x256,
      rowPiece v 9 inb_S14x1x256_S1x1x256_9_0_0 slices_S14x256_o9_0_S1x256,
      rowPiece v 8 inb_S14x1x256_S1x1x256_8_0_0 slices_S14x256_o8_0_S1x256,
      rowPiece v 7 inb_S14x1x256_S1x1x256_7_0_0 slices_S14x256_o7_0_S1x256,
      rowPiece v 6 inb_S14x1x256_S1x1x256_6_0_0 slices_S14x256_o6_0_S1x256,
      rowPiece v 5 inb_S14x1x256_S1x1x256_5_0_0 slices_S14x256_o5_0_S1x256,
      rowPiece v 4 inb_S14x1x256_S1x1x256_4_0_0 slices_S14x256_o4_0_S1x256,
      rowPiece v 3 inb_S14x1x256_S1x1x256_3_0_0 slices_S14x256_o3_0_S1x256,
      rowPiece v 2 inb_S14x1x256_S1x1x256_2_0_0 slices_S14x256_o2_0_S1x256,
      rowPiece v 1 inb_S14x1x256_S1x1x256_1_0_0 slices_S14x256_o1_0_S1x256,
      rowPiece v 0 inb_S14x1x256_S1x1x256_0_0_0 slices_S14x256_o0_0_S1x256] : List (View.Piece (Elt F) S14x1x256 .f32)), y ∈ p.1.set := by
      intro k hk
      fin_cases k
      · exact ⟨_, by exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), rowPiece_mem v 0 _ _ y hk⟩
      · exact ⟨_, by exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), rowPiece_mem v 1 _ _ y hk⟩
      · exact ⟨_, by exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), rowPiece_mem v 2 _ _ y hk⟩
      · exact ⟨_, by exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), rowPiece_mem v 3 _ _ y hk⟩
      · exact ⟨_, by exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), rowPiece_mem v 4 _ _ y hk⟩
      · exact ⟨_, by exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), rowPiece_mem v 5 _ _ y hk⟩
      · exact ⟨_, by exact List.mem_cons_of_mem _ (List.mem_cons_of_mem _ (List.mem_cons_of_mem _ (List.mem_cons_of_mem _ (List.mem_cons_of_mem _ (List.mem_cons_of_mem _ (List.mem_cons_of_mem _ (List.mem_cons_self))))))), rowPiece_mem v 6 _ _ y hk⟩
      · exact ⟨_, by exact List.mem_cons_of_mem _ (List.mem_cons_of_mem _ (List.mem_cons_of_mem _ (List.mem_cons_of_mem _ (List.mem_cons_of_mem _ (List.mem_cons_of_mem _ (List.mem_cons_self)))))), rowPiece_mem v 7 _ _ y hk⟩
      · exact ⟨_, by exact List.mem_cons_of_mem _ (List.mem_cons_of_mem _ (List.mem_cons_of_mem _ (List.mem_cons_of_mem _ (List.mem_cons_of_mem _ (List.mem_cons_self))))), rowPiece_mem v 8 _ _ y hk⟩
      · exact ⟨_, by exact List.mem_cons_of_mem _ (List.mem_cons_of_mem _ (List.mem_cons_of_mem _ (List.mem_cons_of_mem _ (List.mem_cons_self)))), rowPiece_mem v 9 _ _ y hk⟩
      · exact ⟨_, by exact List.mem_cons_of_mem _ (List.mem_cons_of_mem _ (List.mem_cons_of_mem _ (List.mem_cons_self))), rowPiece_mem v 10 _ _ y hk⟩
      · exact ⟨_, by exact List.mem_cons_of_mem _ (List.mem_cons_of_mem _ (List.mem_cons_self)), rowPiece_mem v 11 _ _ y hk⟩
      · exact ⟨_, by exact List.mem_cons_of_mem _ (List.mem_cons_self), rowPiece_mem v 12 _ _ y hk⟩
      · exact ⟨_, by exact List.mem_cons_self, rowPiece_mem v 13 _ _ y hk⟩
    exact this (y 0) rfl

/-- What loop 1's scratch reads after it. -/
theorem gate_w (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v27 : IVec S8x128 32) (v68 : FVec F S14x256 .f32) (v109 : FVec F S1x256 .f32) (v125 : Vec F S1x8x128 .i32) (v127 : Vec F S1x8x128 .i32) (v129 : Vec F S1x8x128 .i32) (X_arg2 : BufTy.Contents (Elt F) arg2.view.ty) (X_arg9 : BufTy.Contents (Elt F) arg9.view.ty) (x1 : Vec F S112x2x256 .i32) (x2 : Vec F S14x256 .i16) (x5 : Vec F S8x256 .i8)
    (hq : arg2.view.read (Elt F) X_arg2 = x1) (hd : arg9.view.read (Elt F) X_arg9 = dGate x2) (h0 : v125 = k0_pay3 x5) (h1 : v127 = k0_pay4 x5) (h2 : v129 = signWords (F := F))
    (hf : IsField v27) (G : BufTy.Contents (Elt F) arg10.view.ty) (inb : ∀ a, (![0, 0] : Fin 2 → Nat) a + S3584x256.size a ≤ S3584x256.size a) :
    View.readAt (Elt F) arg10.view (Rect.unit (s := S3584x256) ![0, 0] S3584x256.size inb).toLoadRect (arg10.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 k0_t1_loop.trips))
      = wOf x1 (dGate x2) x5 := by
  rw [View.readAt_full, weights1 𝒱 c bd i arg1 harg1 arg2 harg2 arg3 harg3 arg4 harg4 arg5 harg5 arg6 harg6 arg7 harg7 arg8 harg8 arg9 harg9 arg10 harg10 arg11 harg11 v27 v68 v109 v125 v127 v129 X_arg2 X_arg9 hf, hq, hd, h0, h1, h2]
  rfl

/-- What loop 2's scratch reads after it. -/
theorem up_w (𝒱 : Variants) (c : Dev nD) (bd : Option 𝒱.V) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole) (v156 : IVec S8x128 32) (v197 : FVec F S14x256 .f32) (v246 : FVec F S1x256 .f32) (v254 : Vec F S1x8x128 .i32) (v256 : Vec F S1x8x128 .i32) (v258 : Vec F S1x8x128 .i32) (X_arg4 : BufTy.Contents (Elt F) arg4.view.ty) (X_arg9 : BufTy.Contents (Elt F) arg9.view.ty) (x3 : Vec F S112x2x256 .i32) (x4 : Vec F S14x256 .i16) (x5 : Vec F S8x256 .i8)
    (hq : arg4.view.read (Elt F) X_arg4 = x3) (hd : arg9.view.read (Elt F) X_arg9 = dUp x4) (h0 : v254 = k0_pay3 x5) (h1 : v256 = k0_pay4 x5) (h2 : v258 = signWords (F := F))
    (hf : IsField v156) (G : BufTy.Contents (Elt F) arg11.view.ty) (inb : ∀ a, (![0, 0] : Fin 2 → Nat) a + S3584x256.size a ≤ S3584x256.size a) :
    View.readAt (Elt F) arg11.view (Rect.unit (s := S3584x256) ![0, 0] S3584x256.size inb).toLoadRect (arg11.view.writes (Elt F) G (pb_k0_t2 (F := F) 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 k0_t2_loop.trips))
      = wOf x3 (dUp x4) x5 := by
  rw [View.readAt_full, weights2 𝒱 c bd i arg1 harg1 arg2 harg2 arg3 harg3 arg4 harg4 arg5 harg5 arg6 harg6 arg7 harg7 arg8 harg8 arg9 harg9 arg10 harg10 arg11 harg11 v156 v197 v246 v254 v256 v258 X_arg4 X_arg9 hf, hq, hd, h0, h1, h2]
  rfl

/-- The last store leaves the block's gated product in the result's buffer. -/
theorem out_read (a : Memref sig .tc .vmem S1536x256 .bf16) (f : BufTy.Contents (Elt F) a.view.ty) (x0 A A' : Vec F S1536x3584 .bf16) (x1 : Vec F S112x2x256 .i32) (x2 : Vec F S14x256 .i16) (x3 : Vec F S112x2x256 .i32) (x4 : Vec F S14x256 .i16) (x5 : Vec F S8x256 .i8)
    (U W : Vec F S3584x256 .bf16) (hA : A = x0) (hA' : A' = x0) (hU : U = wOf x1 (dGate x2) x5) (hW : W = wOf x3 (dUp x4) x5) :
    a.view.read (Elt F) (a.view.writes (Elt F) f [⟨Rect.unit (s := S1536x256) ![0, 0] S1536x256.size inb_S1536x256_S1536x256_0_0, k0_pay1 (k0_pay508 A U A' W)⟩]) = outVal x0 x1 x2 x3 x4 x5 := by
  subst hA hA' hU hW
  exact View.read_writes_full _ _ _ _ _

set_option maxHeartbeats 8000000 in
/-- The body at a later point: from the tables already built it leaves the gated product of its blocks and the tables as they were. -/
theorem val_later (c : Dev nD) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole)  (hc0 : ¬ cond0_0 i)
    (x0 : Vec F S1536x3584 .bf16) (x1 : Vec F S112x2x256 .i32) (x2 : Vec F S14x256 .i16) (x3 : Vec F S112x2x256 .i32) (x4 : Vec F S14x256 .i16) (x5 : Vec F S8x256 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (tab x5) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outVal x0 x1 x2 x3 x4 x5) ∗ owns (c : Thread nD τ) arg8 fullShare (tab x5) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_iq2_gated i arg1 harg1 arg2 harg2 arg3 harg3 arg4 harg4 arg5 harg5 arg6 harg6 arg7 harg7 arg8 harg8 arg9 harg9 arg10 harg10 arg11 harg11) K := by
  simp only [cc0_iq2_gated_eq_skeleton]; unfold cc0_iq2_gated_skel
  simp only [k0_part102_eq_skeleton, k0_part103_eq_skeleton, k0_part104_eq_skeleton, k0_part105_eq_skeleton, k0_part106_eq_skeleton, k0_part107_eq_skeleton, k0_part108_eq_skeleton, k0_part109_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  obtain rfl := harg8.eq_unread hf7
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    have hx2 : View.readAt (Elt F) arg3.view (Rect.unit (s := S14x256) ![0, 0] S14x256.size inb_S14x256_S14x256_0_0).toLoadRect (harg3.unread x2) = x2 := (View.readAt_full _ _ _).trans hf2
    have hx4 : View.readAt (Elt F) arg5.view (Rect.unit (s := S14x256) ![0, 0] S14x256.size inb_S14x256_S14x256_0_0).toLoadRect (harg5.unread x4) = x4 := (View.readAt_full _ _ _).trans hf4
    refine out_read arg7 f6 x0 _ _ x1 x2 x3 x4 x5 _ _ ((View.readAt_full _ _ _).trans hf0) ((View.readAt_full _ _ _).trans hf0) ?_ ?_
    · exact gate_w Variants.none c none i arg1 harg1 arg2 harg2 arg3 harg3 arg4 harg4 arg5 harg5 arg6 harg6 arg7 harg7 arg8 harg8 arg9 harg9 arg10 harg10 arg11 harg11 _ _ _ _ _ _ _ _ x1 x2 x5 hf1
        ((rows_read _ _ (k0_pay457 (k0_pay454 _) (k0_pay455 _) (k0_pay456 _) 13#32) []).trans (congrArg dGate hx2)) (tab_slab0 _ _ x5 hf7 _) (tab_slab1 _ _ x5 hf7 _) (tab_slab2 _ _ x5 hf7 _) field_first _ _
    · exact up_w Variants.none c none i arg1 harg1 arg2 harg2 arg3 harg3 arg4 harg4 arg5 harg5 arg6 harg6 arg7 harg7 arg8 harg8 arg9 harg9 arg10 harg10 arg11 harg11 _ _ _ _ _ _ _ _ x3 x4 x5 hf3
        ((rows_read _ _ (k0_pay488 (k0_pay482 _) (k0_pay484 _) (k0_pay485 _) (k0_pay486 _) (k0_pay487 _) (Scalar.ofBits .f32 0x33800000#32)) _).trans (congrArg dUp hx4)) (tab_slab0 _ _ x5 hf7 _) (tab_slab1 _ _ x5 hf7 _) (tab_slab2 _ _ x5 hf7 _) field_second _ _

  isplitl [H7]
  · iexists _; isplitr
    swap; · iexact H7
    ipureintro
    exact harg8.read_unread _
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

set_option maxHeartbeats 8000000 in
/-- The body at the first point: from scratch of any contents it leaves the gated product of its blocks and the tables built. -/
theorem val_first (c : Dev nD) (i : grid0.Coords) (arg1 : Memref sig .tc .vmem S1536x3584 .bf16) (harg1 : arg1.IsWhole) (arg2 : Memref sig .tc .vmem S112x2x256 .i32) (harg2 : arg2.IsWhole) (arg3 : Memref sig .tc .vmem S14x256 .i16) (harg3 : arg3.IsWhole) (arg4 : Memref sig .tc .vmem S112x2x256 .i32) (harg4 : arg4.IsWhole) (arg5 : Memref sig .tc .vmem S14x256 .i16) (harg5 : arg5.IsWhole) (arg6 : Memref sig .tc .vmem S8x256 .i8) (harg6 : arg6.IsWhole) (arg7 : Memref sig .tc .vmem S1536x256 .bf16) (harg7 : arg7.IsWhole) (arg8 : Memref sig .tc .vmem S3x8x128 .i32) (harg8 : arg8.IsWhole) (arg9 : Memref sig .tc .vmem S14x1x256 .f32) (harg9 : arg9.IsWhole) (arg10 : Memref sig .tc .vmem S3584x256 .bf16) (harg10 : arg10.IsWhole) (arg11 : Memref sig .tc .vmem S3584x256 .bf16) (harg11 : arg11.IsWhole)  (hc0 : cond0_0 i)
    (x0 : Vec F S1536x3584 .bf16) (x1 : Vec F S112x2x256 .i32) (x2 : Vec F S14x256 .i16) (x3 : Vec F S112x2x256 .i32) (x4 : Vec F S14x256 .i16) (x5 : Vec F S8x256 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outVal x0 x1 x2 x3 x4 x5) ∗ owns (c : Thread nD τ) arg8 fullShare (tab x5) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_iq2_gated i arg1 harg1 arg2 harg2 arg3 harg3 arg4 harg4 arg5 harg5 arg6 harg6 arg7 harg7 arg8 harg8 arg9 harg9 arg10 harg10 arg11 harg11) K := by
  simp only [cc0_iq2_gated_eq_skeleton]; unfold cc0_iq2_gated_skel
  simp only [k0_part102_eq_skeleton, k0_part103_eq_skeleton, k0_part104_eq_skeleton, k0_part105_eq_skeleton, k0_part106_eq_skeleton, k0_part107_eq_skeleton, k0_part108_eq_skeleton, k0_part109_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    have htab : arg8.view.read (Elt F) (arg8.view.writes (Elt F) arg8.view.junk (val_first.sl.H7_3 c arg6 harg6 x5)) = tab x5 := tab_read _ _ x5 _ ((View.readAt_full _ _ _).trans hf5)
    have hx2 : View.readAt (Elt F) arg3.view (Rect.unit (s := S14x256) ![0, 0] S14x256.size inb_S14x256_S14x256_0_0).toLoadRect (harg3.unread x2) = x2 := (View.readAt_full _ _ _).trans hf2
    have hx4 : View.readAt (Elt F) arg5.view (Rect.unit (s := S14x256) ![0, 0] S14x256.size inb_S14x256_S14x256_0_0).toLoadRect (harg5.unread x4) = x4 := (View.readAt_full _ _ _).trans hf4
    refine out_read arg7 f6 x0 _ _ x1 x2 x3 x4 x5 _ _ ((View.readAt_full _ _ _).trans hf0) ((View.readAt_full _ _ _).trans hf0) ?_ ?_
    · exact gate_w Variants.none c none i arg1 harg1 arg2 harg2 arg3 harg3 arg4 harg4 arg5 harg5 arg6 harg6 arg7 harg7 arg8 harg8 arg9 harg9 arg10 harg10 arg11 harg11 _ _ _ _ _ _ _ _ x1 x2 x5 hf1
        ((rows_read _ _ (k0_pay457 (k0_pay454 _) (k0_pay455 _) (k0_pay456 _) 13#32) []).trans (congrArg dGate hx2)) (tab_slab0 _ _ x5 htab _) (tab_slab1 _ _ x5 htab _) (tab_slab2 _ _ x5 htab _) field_first _ _
    · exact up_w Variants.none c none i arg1 harg1 arg2 harg2 arg3 harg3 arg4 harg4 arg5 harg5 arg6 harg6 arg7 harg7 arg8 harg8 arg9 harg9 arg10 harg10 arg11 harg11 _ _ _ _ _ _ _ _ x3 x4 x5 hf3
        ((rows_read _ _ (k0_pay488 (k0_pay482 _) (k0_pay484 _) (k0_pay485 _) (k0_pay486 _) (k0_pay487 _) (Scalar.ofBits .f32 0x33800000#32)) _).trans (congrArg dUp hx4)) (tab_slab0 _ _ x5 htab _) (tab_slab1 _ _ x5 htab _) (tab_slab2 _ _ x5 htab _) field_second _ _

  isplitl [H7]
  · iexists _; isplitr
    swap; · iexact H7
    ipureintro
    exact tab_read _ _ x5 _ ((View.readAt_full _ _ _).trans hf5)
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

end Cert.KernelIdeal.Val
-- ==== Proof.KernelIdeal.Launch.lean ====
module

public import proofs.«01_k».proof.Proof.KernelIdeal.Value

/-
The launch with its values: once the first point has built them the table scratch keeps the grid's words, and every
point leaves in its output block the gated product of its columns.
-/

@[expose] public section

set_option maxRecDepth 16384

noncomputable section

namespace Cert.KernelIdeal.Val

open Gen
open Body hiding frame dats A_eq after0_0 after0_1 after0_2 after0_3 after0_4 after0_5 before0_0 before0_1 before0_2 before0_3 before0_4 before0_5 bodyPre bodyPost sound_body body_obligation run_main_quiescent run_main unchanged defs₀_row
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's bytes as every point finds them. -/
def grid8 (c : Dev nD) : Vec F S8x256 .i8 := iblk m c 5 ⟨0, by rw [show cfg0.N = 74 from N_0]; decide⟩

/-- The grid's block is the same at every point. -/
theorem grid8_eq (c : Dev nD) (t : Fin cfg0.N) : iblk m c 5 t = grid8 m c := rfl

/-- The output block of point `t`. -/
def colBlock (c : Dev nD) (t : Fin cfg0.N) : FVec F S1536x256 .bf16 :=
  outVal (iblk m c 0 t) (iblk m c 1 t) (iblk m c 2 t) (iblk m c 3 t) (iblk m c 4 t) (iblk m c 5 t)

/-- The invariant before point `n`: the launch's before the first, then the tables at the grid's words. -/
def PhiS (c : Dev nD) : (n : ℕ) → n ≤ cfg0.N → sProp 𝕄
  | 0, _ => Pipeline.ΦA spec0 c
  | n + 1, hn => iprop(iprop(owns (c : Thread nD τ) scM0_0 fullShare (tab (grid8 m c)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

/-- Before the first point the invariant is the launch's own. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare (tab (grid8 m c)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare (tab (grid8 m c)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => colBlock m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- The body leaves the block of input window 1 as it was. -/
theorem after0_1 (c : Dev nD) (t : Fin cfg0.N) : (dats m 0 c).after 1 t = iblk m c 1 t := by dsimp only [dats]
/-- The body leaves the block of input window 2 as it was. -/
theorem after0_2 (c : Dev nD) (t : Fin cfg0.N) : (dats m 0 c).after 2 t = iblk m c 2 t := by dsimp only [dats]
/-- The body leaves the block of input window 3 as it was. -/
theorem after0_3 (c : Dev nD) (t : Fin cfg0.N) : (dats m 0 c).after 3 t = iblk m c 3 t := by dsimp only [dats]
/-- The body leaves the block of input window 4 as it was. -/
theorem after0_4 (c : Dev nD) (t : Fin cfg0.N) : (dats m 0 c).after 4 t = iblk m c 4 t := by dsimp only [dats]
/-- The body leaves the block of input window 5 as it was. -/
theorem after0_5 (c : Dev nD) (t : Fin cfg0.N) : (dats m 0 c).after 5 t = iblk m c 5 t := by dsimp only [dats]
/-- The body leaves the output block of point `t` in the result's window. -/
theorem after0_6 (c : Dev nD) (t : Fin cfg0.N) : (dats m 0 c).after 6 t = colBlock m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The staging buffer of input window 1 holds its block before every point. -/
theorem before0_1 (c : Dev nD) (t : Fin cfg0.N) (d) : (dats m 0 c).before 1 t d = iblk m c 1 t :=
  before0_1_of m (dats m 0 c) (A_eq m c 1) (after0_1 m c) t d
/-- The staging buffer of input window 2 holds its block before every point. -/
theorem before0_2 (c : Dev nD) (t : Fin cfg0.N) (d) : (dats m 0 c).before 2 t d = iblk m c 2 t :=
  before0_2_of m (dats m 0 c) (A_eq m c 2) (after0_2 m c) t d
/-- The staging buffer of input window 3 holds its block before every point. -/
theorem before0_3 (c : Dev nD) (t : Fin cfg0.N) (d) : (dats m 0 c).before 3 t d = iblk m c 3 t :=
  before0_3_of m (dats m 0 c) (A_eq m c 3) (after0_3 m c) t d
/-- The staging buffer of input window 4 holds its block before every point. -/
theorem before0_4 (c : Dev nD) (t : Fin cfg0.N) (d) : (dats m 0 c).before 4 t d = iblk m c 4 t :=
  before0_4_of m (dats m 0 c) (A_eq m c 4) (after0_4 m c) t d
/-- The staging buffer of input window 5 holds its block before every point. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: it is handed the inputs' blocks and, after the first point, the scratch tables; it leaves the
    tables as they were and the output block at its value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 74 := lt_of_lt_of_eq t.isLt (show cfg0.N = 74 from N_0)
  rw [PhiS_castSucc m c t, ← grid8_eq m c t]
  unfold colBlock
  by_cases hz : t.val = 0
  · have h0 : t.val % 74 = 0 := by omega
    rw [PhiS_zero m c _ _ hz, PhiA0_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (val_first c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have h0 : ¬ t.val % 74 = 0 := by omega
    rw [PhiS_pos m c _ _ hz, ← grid8_eq m c t]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply (val_later c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 74 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Val

end
-- ==== Proof.KernelIdeal.Half.lean ====
module

public import proofs.«01_k».proof.Proof.KernelIdeal.Value

/-! # The half-precision scales, read from their bits

The kernel spells the conversion of a 16-bit float to a 32-bit one out in integer operations, by the exponent field:
zero (a subnormal, scaled by `2^-24`), all ones, and the rest. Here: it gives what the 16 bits denote. -/

@[expose] public section

noncomputable section

namespace Cert.KernelIdeal.Val

open Gen
open Body hiding run_main run_main_quiescent dats A_eq sound_body body_obligation bodyPre bodyPost defs₀_row
open Idealize.ShloMosaic Idealize.ShloMosaic.TcCoe Idealize.ShloMosaic.Tactic
variable {F : FTy → Type} [FloatOps F]

/-- The 16 bits as a word. -/
def wide (h : BitVec 16) : BitVec 32 := IntOp.andi (h.signExtend 32) 65535#32
/-- The sign, at bit 31. -/
def halfSign (h : BitVec 16) : BitVec 32 := IntOp.shli .vector (IntOp.andi (wide h) 32768#32) 16#32
/-- Exponent and significand. -/
def halfMag (h : BitVec 16) : BitVec 32 := IntOp.andi (wide h) 32767#32
/-- The exponent. -/
def halfExp (h : BitVec 16) : BitVec 32 := IntOp.shrsi .vector (halfMag h) 10#32
/-- The bits of a 32-bit float whose exponent is moved by `o`. -/
def movedBits (h : BitVec 16) (o : BitVec 32) : BitVec 32 :=
  IntOp.ori (IntOp.addi (IntOp.shli .vector (halfMag h) 13#32) o) (halfSign h)
/-- A subnormal's magnitude. -/
def tiny (h : BitVec 16) : F .f32 := FloatOps.mulf (FloatOps.sitofp .f32 (halfMag h)) (FloatOps.ofBits .f32 0x33800000#32)

/-- What the kernel makes of the 16 bits. -/
def halfVal (h : BitVec 16) : F .f32 :=
  Scalar.select (IntOp.cmpi .eq (halfExp h) 0#32)
    (Scalar.select (IntOp.cmpi .ne (halfSign h) 0#32) (FloatOps.subf (FloatOps.ofBits .f32 0x00000000#32) (tiny h)) (tiny h))
    (Scalar.select (IntOp.cmpi .eq (halfExp h) 31#32) (FloatOps.ofBits .f32 (movedBits h 1879048192#32))
      (FloatOps.ofBits .f32 (movedBits h 939524096#32)))

/-- A gate scale as the kernel stores it: the decoded 16 bits times one quarter. -/
theorem dGate_half (x2 : Vec F S14x256 .i16) (s : Fin 14) (n : Fin 256) :
    dGate x2 (ix3 s 0 n) = FloatOps.mulf (halfVal (x2 (ix2 s n))) (FloatOps.ofBits .f32 0x3E800000#32) := by
  show k0_pay457 (k0_pay454 x2) (k0_pay455 x2) (k0_pay456 x2) 13#32 (ix2 s n) = _
  unfold k0_pay457 k0_pay456 k0_pay455 k0_pay454 k0_pay453
  dsimp only
  simp only [pointwise]
  rfl

/-- An up scale as the kernel stores it: the decoded 16 bits times one quarter. -/
theorem dUp_half (x4 : Vec F S14x256 .i16) (s : Fin 14) (n : Fin 256) :
    dUp x4 (ix3 s 0 n) = FloatOps.mulf (halfVal (x4 (ix2 s n))) (FloatOps.ofBits .f32 0x3E800000#32) := by
  show k0_pay488 (k0_pay482 x4) (k0_pay484 x4) (k0_pay485 x4) (k0_pay486 x4) (k0_pay487 x4) (Scalar.ofBits .f32 0x33800000#32) (ix2 s n) = _
  unfold k0_pay488 k0_pay487 k0_pay486 k0_pay485 k0_pay484 k0_pay482 k0_pay483 k0_pay481
  dsimp only
  simp only [pointwise]
  rfl

/-- The mask 65535 has exactly its low 16 bits set. -/
theorem mask16 (i : Fin 32) : (65535#32)[i.val] = decide (i.val < 16) := by revert i; decide

/-- The 16 bits widened to a word are the same number. -/
theorem wide_toNat (h : BitVec 16) : (wide h).toNat = h.toNat := by
  unfold wide IntOp.andi
  have : h.signExtend 32 &&& 65535#32 = h.setWidth 32 := by
    ext i hi
    rw [BitVec.getElem_and, BitVec.getElem_signExtend, BitVec.getElem_setWidth, mask16 ⟨i, hi⟩]
    by_cases h16 : i < 16
    · rw [dif_pos h16, decide_eq_true h16, Bool.and_true, BitVec.getLsbD_eq_getElem h16]
    · rw [dif_neg h16, decide_eq_false h16, Bool.and_false, BitVec.getLsbD_of_ge _ _ (by omega)]
  rw [this, BitVec.toNat_setWidth_of_le (by decide)]

/-- Exponent and significand are the low 15 bits. -/
theorem halfMag_toNat (h : BitVec 16) : (halfMag h).toNat = h.toNat % 32768 := by
  unfold halfMag IntOp.andi
  rw [BitVec.toNat_and, wide_toNat]
  exact Nat.and_two_pow_sub_one_eq_mod h.toNat 15

/-- The sign bit of the word is set when bit 15 of the 16 bits is. -/
theorem halfSign_eq (h : BitVec 16) : halfSign h = if 32768 ≤ h.toNat then 0x80000000#32 else 0#32 := by
  have e : IntOp.andi (wide h) 32768#32 = if 32768 ≤ h.toNat then 32768#32 else 0#32 := by
    unfold IntOp.andi
    rw [show (32768#32 : BitVec 32) = BitVec.twoPow 32 15 by decide, BitVec.and_twoPow, BitVec.getLsbD,
      Nat.testBit_eq_decide_div_mod_eq, wide_toNat]
    have hl := h.isLt
    by_cases hw : 32768 ≤ h.toNat
    · have : h.toNat / 2 ^ 15 % 2 = 1 := by omega
      rw [if_pos hw, if_pos (decide_eq_true this)]
    · have : ¬ h.toNat / 2 ^ 15 % 2 = 1 := by omega
      rw [if_neg hw, if_neg (by rw [decide_eq_false this]; decide)]
  unfold halfSign
  rw [e]
  split <;> rfl

/-- The exponent is bits 10 to 14. -/
theorem halfExp_toNat (h : BitVec 16) : (halfExp h).toNat = h.toNat % 32768 / 1024 := by
  have hm := halfMag_toNat h
  have hl : h.toNat % 32768 < 32768 := Nat.mod_lt _ (by decide)
  show ((halfMag h).sshiftRight' 10#32).toNat = _
  rw [BitVec.sshiftRight_eq', show (10#32 : BitVec 32).toNat = 10 from rfl,
    BitVec.sshiftRight_eq_of_msb_false (by rw [BitVec.msb_eq_decide, decide_eq_false]; omega), BitVec.toNat_ushiftRight, hm,
    Nat.shiftRight_eq_div_pow]

/-- The assembled 32 bits as a number: sign, then the low 15 bits moved up by 13, plus the offset. -/
theorem movedBits_toNat (h : BitVec 16) (o : BitVec 32) (ho : o.toNat < 1879048193) :
    (movedBits h o).toNat = (if 32768 ≤ h.toNat then 2147483648 else 0) + (h.toNat % 32768 * 8192 + o.toNat) := by
  have hm := halfMag_toNat h
  have hl : h.toNat % 32768 < 32768 := Nat.mod_lt _ (by decide)
  have e : (IntOp.addi (IntOp.shli .vector (halfMag h) 13#32) o).toNat = h.toNat % 32768 * 8192 + o.toNat := by
    show (halfMag h <<< (13#32 : BitVec 32) + o).toNat = _
    rw [BitVec.toNat_add, BitVec.shiftLeft_eq', BitVec.toNat_shiftLeft, hm, Nat.shiftLeft_eq]
    show (h.toNat % 32768 * 8192 % 4294967296 + o.toNat) % 4294967296 = _
    omega
  unfold movedBits IntOp.ori
  rw [halfSign_eq, BitVec.toNat_or, e]
  split
  · show (_ ||| 2 ^ 31 * 1 : Nat) = _
    rw [Nat.or_comm, ← Nat.two_pow_add_eq_or_of_lt (by omega)]
  · show (_ ||| 0 : Nat) = _
    rw [Nat.or_zero, Nat.zero_add]

/-- For every one of the 16-bit words, the kernel's integer decode is the binary16 value. -/
theorem halfVal_eq (h : BitVec 16) : halfVal (F := Ideal) h = Ideal.ofBits .f16 h := by
  have hl := h.isLt
  have hx := halfExp_toNat h
  have hneg : (h.extractLsb' 15 1 == 1#1) = decide (32768 ≤ h.toNat) := by
    rw [Bool.eq_iff_iff, decide_eq_true_iff, beq_iff_eq, ← BitVec.toNat_inj, BitVec.extractLsb'_toNat, Nat.shiftRight_eq_div_pow]
    show h.toNat / 2 ^ 15 % 2 ^ 1 = 1 ↔ _
    omega
  have hex : (h.extractLsb' 10 5).toNat = h.toNat % 32768 / 1024 := by
    rw [BitVec.extractLsb'_toNat, Nat.shiftRight_eq_div_pow]; omega
  have hfr : (h.extractLsb' 0 10).toNat = h.toNat % 1024 := by
    rw [BitVec.extractLsb'_toNat, Nat.shiftRight_eq_div_pow]; omega
  have hmag : (halfMag h).toInt = ((h.toNat % 32768 : Nat) : Int) := by
    rw [BitVec.toInt_eq_toNat_of_lt (by rw [halfMag_toNat]; omega), halfMag_toNat]
  have e0 : IntOp.cmpi .eq (halfExp h) 0#32 = BitVec.ofBool (decide (h.toNat % 32768 / 1024 = 0)) := by
    unfold IntOp.cmpi
    refine congrArg BitVec.ofBool ?_
    rw [Bool.eq_iff_iff, decide_eq_true_iff, beq_iff_eq, ← BitVec.toNat_inj, hx]
    rfl
  have e31 : IntOp.cmpi .eq (halfExp h) 31#32 = BitVec.ofBool (decide (h.toNat % 32768 / 1024 = 31)) := by
    unfold IntOp.cmpi
    refine congrArg BitVec.ofBool ?_
    rw [Bool.eq_iff_iff, decide_eq_true_iff, beq_iff_eq, ← BitVec.toNat_inj, hx]
    rfl
  have es : IntOp.cmpi .ne (halfSign h) 0#32 = BitVec.ofBool (decide (32768 ≤ h.toNat)) := by
    rw [halfSign_eq]
    by_cases hs : 32768 ≤ h.toNat
    · rw [if_pos hs, decide_eq_true hs]; rfl
    · rw [if_neg hs, decide_eq_false hs]; rfl
  have sel : ∀ (p : Bool) (a b : Ideal .f32), Scalar.select (BitVec.ofBool p) a b = if p then a else b := fun p a b => by
    cases p <;> rfl
  have c24 : Ideal.ofBits .f32 0x33800000#32 = (((2 : ℝ) ^ (-24 : Int) : ℝ) : EReal) := by
    simp [Ideal.ofBits, Ideal.ieee, -EReal.coe_mul]
    norm_num
  unfold halfVal
  rw [e0, e31, es, sel, sel, sel]
  unfold tiny Ideal.ofBits
  show (if _ then if _ then Ideal.ofBits .f32 0x00000000#32 - (((halfMag h).toInt : ℝ) : EReal) * Ideal.ofBits .f32 0x33800000#32
      else (((halfMag h).toInt : ℝ) : EReal) * Ideal.ofBits .f32 0x33800000#32
    else if _ then Ideal.ieee 8 23 (movedBits h 1879048192#32) else Ideal.ieee 8 23 (movedBits h 939524096#32)) = Ideal.ieee 5 10 h
  rw [c24, hmag, Ideal.ofBits_zero_f32]
  unfold Ideal.ieee
  dsimp only
  rw [show (8 + 23 : Nat) = 31 from rfl, show (5 + 10 : Nat) = 15 from rfl, hneg, hex, hfr]
  have mv : ∀ (o : BitVec 32) (x : Nat) (ho : o.toNat = x * 8388608), (x = 112 ∨ x = 224) →
      ((movedBits h o).extractLsb' 31 1 == 1#1) = decide (32768 ≤ h.toNat)
      ∧ ((movedBits h o).extractLsb' 23 8).toNat = h.toNat % 32768 / 1024 + x
      ∧ ((movedBits h o).extractLsb' 0 23).toNat = h.toNat % 1024 * 8192 := by
    intro o x ho hxx
    have e := movedBits_toNat h o (by omega)
    refine ⟨?_, ?_, ?_⟩
    · rw [Bool.eq_iff_iff, decide_eq_true_iff, beq_iff_eq, ← BitVec.toNat_inj, BitVec.extractLsb'_toNat, Nat.shiftRight_eq_div_pow, e]
      show _ / 2 ^ 31 % 2 ^ 1 = 1 ↔ _
      split <;> omega
    · rw [BitVec.extractLsb'_toNat, Nat.shiftRight_eq_div_pow, e]
      split <;> omega
    · rw [BitVec.extractLsb'_toNat, Nat.shiftRight_eq_div_pow, e]
      split <;> omega
  obtain ⟨n1, n2, n3⟩ := mv 939524096#32 112 rfl (Or.inl rfl)
  obtain ⟨i1, i2, i3⟩ := mv 1879048192#32 224 rfl (Or.inr rfl)
  rw [n1, n2, n3, i1, i2, i3]
  by_cases z : h.toNat % 32768 / 1024 = 0
  · have hm : h.toNat % 32768 = h.toNat % 1024 := by omega
    rw [z, hm]
    generalize h.toNat % 1024 = fr
    by_cases hs : 32768 ≤ h.toNat
    · simp [hs, ← EReal.coe_mul, ← EReal.coe_neg]
      simp only [EReal.coe_neg, EReal.coe_mul, EReal.coe_natCast]
    · simp [hs, ← EReal.coe_mul]
      simp only [EReal.coe_mul, EReal.coe_natCast]
  · by_cases t : h.toNat % 32768 / 1024 = 31
    · rw [t]
      by_cases hs : 32768 ≤ h.toNat
      · simp [hs]
      · simp [hs]
    · have lt : h.toNat % 32768 / 1024 < 31 := by omega
      generalize h.toNat % 32768 / 1024 = ex at *
      generalize h.toNat % 1024 = fr at *
      have key : ((2 ^ 23 + fr * 8192 : Nat) : ℝ) * (2 : ℝ) ^ (((ex + 112 : Nat) : Int) - (2 ^ (8 - 1) - 1) - ((23 : Nat) : Int))
          = ((2 ^ 10 + fr : Nat) : ℝ) * (2 : ℝ) ^ ((ex : Int) - (2 ^ (5 - 1) - 1) - ((10 : Nat) : Int)) := by
        have : (((ex + 112 : Nat) : Int) - (2 ^ (8 - 1) - 1) - ((23 : Nat) : Int)) = ((ex : Int) - (2 ^ (5 - 1) - 1) - ((10 : Nat) : Int)) + (-13) := by
          norm_num; omega
        rw [this, zpow_add₀ (by norm_num)]
        push_cast
        rw [show ((2 : ℝ) ^ (-13 : Int)) = 1 / 8192 by norm_num]
        ring
      have q1 : ¬ ex = 2 ^ 5 - 1 := by omega
      have q2 : ¬ ex + 112 = 2 ^ 8 - 1 := by omega
      have q3 : ¬ ex + 112 = 0 := by omega
      rw [decide_eq_false z, decide_eq_false t, if_neg (by decide), if_neg (by decide), if_neg q2, if_neg q3,
        if_neg q1, if_neg z, mul_assoc, key, mul_assoc]

end Cert.KernelIdeal.Val
-- ==== Proof.KernelIdeal.Words.lean ====
module

public import Idealize.ShloMosaic.PureOps.Float
public import Idealize.ShloMosaic.PureOps.Ideal

/-! # The words the weights are assembled from

A grid byte `b` is kept as the bits of its value as a 32-bit float, two bytes to a table word (their low 16 bits are
zero); the signs of the two halves are bits 15 and 31 of a sign word. Here: what the bits denote, and that taking a
word apart gives each byte's bits with its sign bit. -/

@[expose] public section

noncomputable section

namespace Cert.Words

open Idealize.ShloMosaic

/-- The bits, as a 32-bit float, of the value of a byte. -/
def byteBits (b : BitVec 8) : BitVec 32 :=
  Scalar.select (IntOp.cmpi .eq (b.setWidth 32) 0#32) 0#32
    (IntOp.addi (IntOp.shli .vector (b.setWidth 32) (IntOp.subi (IntOp.ctlz (b.setWidth 32)) 8#32))
      (IntOp.shli .vector (IntOp.subi 157#32 (IntOp.ctlz (b.setWidth 32))) 23#32))

/-- Two bytes' bits in one word. -/
def pairWord (lo hi : BitVec 8) : BitVec 32 := IntOp.ori (IntOp.shrui .vector (byteBits lo) 16#32) (byteBits hi)

/-- A sign code with its parity as an eighth bit. -/
def pattern (c : BitVec 32) : BitVec 32 := c ||| ((IntOp.ctpop c &&& 1#32) <<< 7)

/-- Bit `e` of the pattern of the code `c`: the `e`-th weight of the group is negative. -/
def neg (c : BitVec 32) (e : Nat) : Bool := (pattern c >>> e) &&& 1#32 == 1#32

/-- The bit that negates a 32-bit float. -/
def signBit (s : Bool) : BitVec 32 := if s then 0x80000000#32 else 0#32

/-- A byte's float bits survive a shift down and up by 16: their low half is zero. -/
theorem byteBits_up (b : BitVec 8) : (byteBits b >>> 16) <<< 16 = byteBits b := by
  revert b; decide +kernel

/-- The low half of a byte's float bits is zero. -/
theorem byteBits_low (b : BitVec 8) : byteBits b <<< 16 = 0#32 := by
  revert b; decide +kernel

/-- A byte's float bits lie in the high half. -/
theorem byteBits_high (b : BitVec 8) : byteBits b &&& 4294901760#32 = byteBits b := by
  revert b; decide +kernel

/-- A byte's float bits moved to the low half leave the high half zero. -/
theorem byteBits_masked (b : BitVec 8) : (byteBits b >>> 16) &&& 4294901760#32 = 0#32 := by
  revert b; decide +kernel

/-- The logical shift by 16 is the plain right shift. -/
theorem shrui_16 (x : BitVec 32) : IntOp.shrui .vector x 16#32 = x >>> 16 := rfl

/-- The low half of a signed pair, moved up, is the even byte with its sign. -/
theorem pair_even (lo hi : BitVec 8) (sg : BitVec 32) (s : Bool) (h : sg <<< 16 = signBit s) :
    (pairWord lo hi ^^^ sg) <<< 16 = byteBits lo ^^^ signBit s := by
  unfold pairWord IntOp.ori
  rw [shrui_16, BitVec.shiftLeft_xor_distrib, BitVec.shiftLeft_or_distrib, byteBits_up, byteBits_low, h, BitVec.or_zero]

/-- The high half of a signed pair is the odd byte with its sign. -/
theorem pair_odd (lo hi : BitVec 8) (sg : BitVec 32) (s : Bool) (h : sg &&& 4294901760#32 = signBit s) :
    (pairWord lo hi ^^^ sg) &&& 4294901760#32 = byteBits hi ^^^ signBit s := by
  unfold pairWord IntOp.ori
  have hx : ∀ a b c : BitVec 32, (a ^^^ b) &&& c = (a &&& c) ^^^ (b &&& c) := fun a b c => by
    ext i hi; simp only [BitVec.getElem_and, BitVec.getElem_xor]; cases a[i] <;> cases b[i] <;> cases c[i] <;> rfl
  have ho : ∀ a b c : BitVec 32, (a ||| b) &&& c = (a &&& c) ||| (b &&& c) := fun a b c => by
    ext i hi; simp only [BitVec.getElem_and, BitVec.getElem_or]; cases a[i] <;> cases b[i] <;> cases c[i] <;> rfl
  rw [shrui_16, hx, ho, byteBits_masked, byteBits_high, h, BitVec.zero_or]

/-- What the bits of a byte with a sign denote: exponent and significand, in whole numbers. -/
theorem byteBits_fields (b : BitVec 8) (s : Bool) :
    ((byteBits b ^^^ signBit s).extractLsb' 31 1 == 1#1) = s
    ∧ (b = 0#8 → ((byteBits b ^^^ signBit s).extractLsb' 23 8).toNat = 0 ∧ ((byteBits b ^^^ signBit s).extractLsb' 0 23).toNat = 0)
    ∧ (b ≠ 0#8 → ((byteBits b ^^^ signBit s).extractLsb' 23 8).toNat ≠ 0 ∧ ((byteBits b ^^^ signBit s).extractLsb' 23 8).toNat < 150
      ∧ 2 ^ 23 + ((byteBits b ^^^ signBit s).extractLsb' 0 23).toNat
        = b.toNat * 2 ^ (150 - ((byteBits b ^^^ signBit s).extractLsb' 23 8).toNat)) := by
  revert b s; decide +kernel

/-- A byte's float bits with a sign bit are the byte's number, negated when the bit is set. -/
theorem ofBits_byte (b : BitVec 8) (s : Bool) :
    Ideal.ofBits .f32 (byteBits b ^^^ signBit s) = if s then -((b.toNat : ℝ) : EReal) else ((b.toNat : ℝ) : EReal) := by
  obtain ⟨h1, h2, h3⟩ := byteBits_fields b s
  unfold Ideal.ofBits Ideal.ieee
  dsimp only
  rw [show (8 + 23 : Nat) = 31 from rfl, h1]
  by_cases hb : b = 0#8
  · obtain ⟨e, f⟩ := h2 hb
    subst hb
    rw [e, f]
    cases s <;> simp
  · obtain ⟨e, e', f⟩ := h3 hb
    generalize ((byteBits b ^^^ signBit s).extractLsb' 23 8).toNat = ex at *
    generalize ((byteBits b ^^^ signBit s).extractLsb' 0 23).toNat = fr at *
    rw [if_neg (by omega), if_neg e, f]
    have hp : ((b.toNat * 2 ^ (150 - ex) : Nat) : ℝ) * (2 : ℝ) ^ ((ex : Int) - (2 ^ (8 - 1) - 1) - ((23 : Nat) : Int)) = b.toNat := by
      push_cast
      rw [mul_assoc, ← zpow_natCast, ← zpow_add₀ (by norm_num),
        show ((150 - ex : Nat) : Int) + ((ex : Int) - 127 - 23) = 0 by omega, zpow_zero, mul_one]
    rw [mul_assoc, hp]
    cases s
    · simp
    · simp

/-- The parity fold of a code's seven bits, put at bit 7. -/
def foldedPattern (c : BitVec 32) : BitVec 32 :=
  let a := IntOp.xori c (IntOp.shrsi .vector c 4#32)
  let b := IntOp.xori a (IntOp.shrsi .vector a 2#32)
  IntOp.ori c (IntOp.shli .vector (IntOp.andi (IntOp.xori b (IntOp.shrsi .vector b 1#32)) 1#32) 7#32)

/-- The sign word of a code at row `j`. -/
def signWord (c j : BitVec 32) : BitVec 32 :=
  let p := IntOp.shrui .vector (foldedPattern c) (IntOp.muli 2#32 (IntOp.andi j 3#32))
  IntOp.ori (IntOp.shli .vector (IntOp.andi p 1#32) 15#32) (IntOp.shli .vector (IntOp.andi p 2#32) 30#32)

/-- The low half of a sign word is the even element's sign. -/
theorem signWord_even (j : Fin 8) (l : Fin 128) :
    signWord (BitVec.ofNat 32 l.val) (BitVec.ofNat 32 j.val) <<< 16 = signBit (neg (BitVec.ofNat 32 l.val) (2 * (j.val % 4))) := by
  revert j l; decide +kernel

/-- The high half of a sign word is the odd element's sign. -/
theorem signWord_odd (j : Fin 8) (l : Fin 128) :
    signWord (BitVec.ofNat 32 l.val) (BitVec.ofNat 32 j.val) &&& 4294901760#32
      = signBit (neg (BitVec.ofNat 32 l.val) (2 * (j.val % 4) + 1)) := by
  revert j l; decide +kernel

end Cert.Words
-- ==== Proof.KernelIdeal.Tables.lean ====
module

public import proofs.«01_k».proof.Proof.KernelIdeal.Value
public import proofs.«01_k».proof.Proof.KernelIdeal.Words

/-! # The kernel's tables, read at an index

Row `j` of the two byte tables holds the bytes `2 (j mod 4)` and `2 (j mod 4) + 1` of a grid row; row `j` of the sign
table holds, for a code, the signs of the same two places. -/

@[expose] public section

noncomputable section

namespace Cert.KernelIdeal.Val

open Gen Words
open Body hiding run_main run_main_quiescent dats A_eq sound_body body_obligation bodyPre bodyPost defs₀_row
open Idealize.ShloMosaic Idealize.ShloMosaic.TcCoe Idealize.ShloMosaic.Tactic
variable {F : FTy → Type} [FloatOps F]

/-- Each packed word holds two neighbouring bytes of a grid entry. -/
theorem pay2_apply (x5 : Vec F S8x256 .i8) (j : Fin 8) (l : Fin 256) :
    k0_pay2 x5 (ix2 j l) = pairWord (x5 (ix2 ⟨2 * (j.val % 4), by omega⟩ l)) (x5 (ix2 ⟨2 * (j.val % 4) + 1, by omega⟩ l)) := by
  unfold k0_pay2
  simp only [pointwise]
  fin_cases j <;> simp [pairWord, byteBits]

/-- The first slab holds the packed words of grid entries 0 to 127. -/
theorem low_apply (x5 : Vec F S8x256 .i8) (j : Fin 8) (l : Fin 128) :
    shapeCast S8x128 (k0_pay3 x5) shapeCasts_S1x8x128_S8x128 (ix2 j l) = k0_pay2 x5 (ix2 j ⟨l.val, by omega⟩) := by
  unfold k0_pay3
  dsimp only
  rw [shapeCast_shapeCast]
  simp only [pointwise]
  refine congrArg (k0_pay2 x5) (funext fun a => Fin.ext ?_)
  match a with
  | ⟨0, _⟩ => show 0 + j.val = j.val; omega
  | ⟨1, _⟩ => show 0 + l.val = l.val; omega

/-- The second slab holds the packed words of grid entries 128 to 255. -/
theorem high_apply (x5 : Vec F S8x256 .i8) (j : Fin 8) (l : Fin 128) :
    shapeCast S8x128 (k0_pay4 x5) shapeCasts_S1x8x128_S8x128 (ix2 j l) = k0_pay2 x5 (ix2 j ⟨l.val + 128, by omega⟩) := by
  unfold k0_pay4
  dsimp only
  rw [shapeCast_shapeCast]
  simp only [pointwise]
  refine congrArg (k0_pay2 x5) (funext fun a => Fin.ext ?_)
  match a with
  | ⟨0, _⟩ => show 0 + j.val = j.val; omega
  | ⟨1, _⟩ => show 128 + l.val = l.val + 128; omega

/-- The third slab holds the sign words, one for each seven-bit code and pair. -/
theorem sign_apply (j : Fin 8) (l : Fin 128) :
    shapeCast S8x128 (signWords (F := F)) shapeCasts_S1x8x128_S8x128 (ix2 j l) = signWord (BitVec.ofNat 32 l.val) (BitVec.ofNat 32 j.val) := by
  unfold signWords k0_pay451 k0_pay5 k0_pay6
  dsimp only
  rw [shapeCast_shapeCast]
  simp only [pointwise, List.foldl, Nat.zero_mul, Nat.zero_add]
  rfl

end Cert.KernelIdeal.Val
-- ==== Proof.Math.Weight.lean ====
module

public import proofs.«01_k».proof.Proof.KernelIdeal.Words

/-! # The weight a code stands for

Row `e` of a sub-block of 32 weights is place `e mod 8` of field `e / 8`. The field's eight bits of the first word
choose a grid row, its seven bits of the second word the signs; the top four bits of the second word are the
sub-block's scale code. -/

@[expose] public section

noncomputable section

namespace Cert.Words

open Idealize.ShloMosaic

/-- One half, as the programs write it. -/
abbrev half : EReal := Ideal.ofBits .f32 0x3F000000#32
/-- One quarter, as the programs write it. -/
abbrev quarter : EReal := Ideal.ofBits .f32 0x3E800000#32

/-- The magnitude: the super-block's scale `d` times the sub-block's factor, times the grid's byte. -/
def mag (wa wb : BitVec 32) (d : EReal) (g : Fin 256 → Fin 8 → BitVec 8) (e : Nat) : EReal :=
  d * (half + ((wb >>> 28).toNat : ℝ)) * quarter
    * (((g ⟨(wa >>> (8 * (e / 8))).toNat % 256, Nat.mod_lt _ (by decide)⟩ ⟨e % 8, Nat.mod_lt _ (by decide)⟩).toNat : ℝ) : EReal)

/-- The weight. -/
def wgt (wa wb : BitVec 32) (d : EReal) (g : Fin 256 → Fin 8 → BitVec 8) (e : Nat) : EReal :=
  if neg ((wb >>> (7 * (e / 8))) &&& 127#32) (e % 8) then -mag wa wb d g e else mag wa wb d g e

/-- The gated product of a row's two inner products. -/
def gated (g u : EReal) : EReal := g * (1 + Ideal.exp (-g))⁻¹ * u

/-- One plus an exponential is never zero. -/
theorem one_add_exp_ne (g : EReal) : (1 + Ideal.exp g) ≠ 0 := by
  have h : (0 : EReal) ≤ Ideal.exp g := by
    induction g with
    | bot => simp
    | top => simp
    | coe r => rw [Ideal.exp_coe]; exact_mod_cast (Real.exp_pos r).le
  intro e
  have h1 : (1 : EReal) ≤ 1 + Ideal.exp g := le_add_of_nonneg_right h
  rw [e] at h1
  exact absurd h1 (by simp)

/-- The kernel's form of the gated product. -/
theorem gated_kernel (g u : EReal) : Ideal.div g (1 + Ideal.exp (0 - g)) * u = gated g u := by
  unfold gated Ideal.div
  rw [zero_sub, if_neg (one_add_exp_ne _)]

/-- The reference's form of the gated product. -/
theorem gated_reference (g u : EReal) : g * Ideal.div 1 (1 + Ideal.exp (-g)) * u = gated g u := by
  unfold gated Ideal.div
  rw [if_neg (one_add_exp_ne _), one_mul]

end Cert.Words
-- ==== Proof.KernelIdeal.Cell.lean ====
module

public import proofs.«01_k».proof.Proof.KernelIdeal.Half
public import proofs.«01_k».proof.Proof.KernelIdeal.Tables
public import proofs.«01_k».proof.Proof.Math.Weight

/-! # The kernel's dequantized weights

Over the extended reals every row of a decoded block is the weight that the two code words, the half-precision scale
and the grid stand for. -/

@[expose] public section

noncomputable section

namespace Cert.KernelIdeal.Val

open Gen Words
open Body hiding run_main run_main_quiescent dats A_eq sound_body body_obligation bodyPre bodyPost defs₀_row
open Idealize.ShloMosaic Idealize.ShloMosaic.TcCoe Idealize.ShloMosaic.Tactic

/-- The grid's byte: row `r`, place `j`. -/
abbrev gridOf (x5 : Vec Ideal S8x256 .i8) : Fin 256 → Fin 8 → BitVec 8 := fun r j => x5 (ix2 j r)

/-- The pair of weights looked up in the tables is the grid's two bytes, each with its sign put in. -/
theorem pairB_eq (x5 : Vec Ideal S8x256 .i8) (wa wb : BitVec 32) (f : Nat) (j : Fin 8) :
    pairB (shapeCast S8x128 (k0_pay3 x5) shapeCasts_S1x8x128_S8x128) (shapeCast S8x128 (k0_pay4 x5) shapeCasts_S1x8x128_S8x128)
        (shapeCast S8x128 (signWords (F := Ideal)) shapeCasts_S1x8x128_S8x128) wa wb f j
      = pairWord (gridOf x5 ⟨(wa >>> (8 * f)).toNat % 256, Nat.mod_lt _ (by decide)⟩ ⟨2 * (j.val % 4), by omega⟩)
          (gridOf x5 ⟨(wa >>> (8 * f)).toNat % 256, Nat.mod_lt _ (by decide)⟩ ⟨2 * (j.val % 4) + 1, by omega⟩)
        ^^^ signWord (BitVec.ofNat 32 (lane (wb >>> (7 * f)).toNat).val) (BitVec.ofNat 32 j.val) := by
  unfold pairB
  rw [sign_apply, low_apply, high_apply, pay2_apply, pay2_apply]
  congr 1
  generalize (wa >>> (8 * f)).toNat = x
  split
  · rename_i h
    have e : (⟨(lane x).val + 128, by have := (lane x).isLt; omega⟩ : Fin 256) = ⟨x % 256, Nat.mod_lt _ (by decide)⟩ :=
      Fin.ext (show x % 128 + 128 = x % 256 by omega)
    rw [e]
  · rename_i h
    have e : (⟨(lane x).val, by have := (lane x).isLt; omega⟩ : Fin 256) = ⟨x % 256, Nat.mod_lt _ (by decide)⟩ :=
      Fin.ext (show x % 128 = x % 256 by omega)
    rw [e]

/-- The lane a word selects is its low seven bits. -/
theorem lane_word (w : BitVec 32) : BitVec.ofNat 32 (lane w.toNat).val = w &&& 127#32 := by
  rw [← BitVec.toNat_inj, and127, BitVec.toNat_ofNat]
  show w.toNat % 128 % 2 ^ 32 = _
  omega

/-- The four scale bits read as a signed integer are the same number as unsigned. -/
theorem scale_toInt (w : BitVec 32) : (w >>> 28).toInt = ((w >>> 28).toNat : Int) := by
  have h : (w >>> 28).toNat < 16 := by
    rw [BitVec.toNat_ushiftRight, Nat.shiftRight_eq_div_pow]; have := w.isLt; omega
  exact BitVec.toInt_eq_toNat_of_lt (by omega)

/-- What the kernel stores at row `e` of a sub-block, its scale already multiplied by one quarter. -/
theorem cell_eq (x5 : Vec Ideal S8x256 .i8) (wa wb : BitVec 32) (d : EReal) (e : Nat) (he : e < 32) (j : Fin 8) (hj : j.val = e % 16 / 2) :
    cell (F := Ideal) (shapeCast S8x128 (k0_pay3 x5) shapeCasts_S1x8x128_S8x128) (shapeCast S8x128 (k0_pay4 x5) shapeCasts_S1x8x128_S8x128)
        (shapeCast S8x128 (signWords (F := Ideal)) shapeCasts_S1x8x128_S8x128) wa wb (d * quarter) (e / 8) j (decide (e % 2 = 1))
      = wgt wa wb d (gridOf x5) e := by
  unfold cell
  rw [pairB_eq]
  have fin : ∀ (p : Fin 8) (hp : p.val = e % 8) (b : BitVec 32)
      (hb : b = byteBits (gridOf x5 ⟨(wa >>> (8 * (e / 8))).toNat % 256, Nat.mod_lt _ (by decide)⟩ p)
        ^^^ signBit (neg ((wb >>> (7 * (e / 8))) &&& 127#32) (e % 8))),
      FloatOps.truncf (F := Ideal) .bf16 (by decide) (FloatOps.mulf (FloatOps.ofBits (F := Ideal) .f32 b)
        (FloatOps.mulf (F := Ideal) (d * quarter) (FloatOps.addf (FloatOps.sitofp .f32 (wb >>> 28)) (FloatOps.ofBits .f32 0x3F000000#32))))
      = wgt wa wb d (gridOf x5) e := by
    intro p hp b hb
    subst hb
    have hp' : p = ⟨e % 8, Nat.mod_lt _ (by decide)⟩ := Fin.ext hp
    subst hp'
    show Ideal.ofBits .f32 _ * (d * quarter * ((((wb >>> 28).toInt : ℝ) : EReal) + half)) = _
    rw [ofBits_byte, scale_toInt]
    unfold wgt mag
    generalize ((gridOf x5 _ _).toNat : ℝ) = b
    rw [show ((((wb >>> 28).toNat : Int) : ℝ) : EReal) = (((wb >>> 28).toNat : ℝ) : EReal) by norm_cast]
    rw [add_comm half]
    split
    · rw [EReal.neg_mul]
      congr 1
      rw [mul_comm, mul_right_comm d]
    · rw [mul_comm, mul_right_comm d]
  by_cases h : e % 2 = 1
  · rw [decide_eq_true h]
    refine fin ⟨2 * (j.val % 4) + 1, by omega⟩ (by show 2 * (j.val % 4) + 1 = e % 8; omega) _ ?_
    rw [if_pos rfl]
    rw [pair_odd _ _ _ _ (signWord_odd j _), lane_word, show e % 8 = 2 * (j.val % 4) + 1 by omega]
  · rw [decide_eq_false h]
    refine fin ⟨2 * (j.val % 4), by omega⟩ (by show 2 * (j.val % 4) = e % 8; omega) _ ?_
    rw [if_neg (by decide)]
    rw [pair_even _ _ _ _ (signWord_even j _), lane_word, show e % 8 = 2 * (j.val % 4) by omega]

/-- The decoded block, row by row: the scales are the half-precision ones. -/
theorem wOf_gate (x1 : Vec Ideal S112x2x256 .i32) (x2 : Vec Ideal S14x256 .i16) (x5 : Vec Ideal S8x256 .i8) (y : Fin 3584) (n : Fin 256) :
    wOf x1 (dGate x2) x5 (ix2 y n)
      = wgt (x1 (ix3 ⟨y.val / 32, by omega⟩ 0 n)) (x1 (ix3 ⟨y.val / 32, by omega⟩ 1 n))
          (Ideal.ofBits .f16 (x2 (ix2 ⟨y.val / 256, by omega⟩ n))) (gridOf x5) (y.val % 32) := by
  show wAt x1 (dGate x2) _ _ _ y n = _
  unfold wAt
  rw [dGate_half, halfVal_eq, ← cell_eq x5 _ _ _ (y.val % 32) (Nat.mod_lt _ (by decide)) ⟨y.val % 16 / 2, by omega⟩
    (by show y.val % 16 / 2 = y.val % 32 % 16 / 2; omega)]
  rw [show y.val % 32 % 2 = y.val % 2 by omega]
  rfl

/-- Each up weight of a block is the weight of the up words, the binary16 value of its scale and the grid. -/
theorem wOf_up (x3 : Vec Ideal S112x2x256 .i32) (x4 : Vec Ideal S14x256 .i16) (x5 : Vec Ideal S8x256 .i8) (y : Fin 3584) (n : Fin 256) :
    wOf x3 (dUp x4) x5 (ix2 y n)
      = wgt (x3 (ix3 ⟨y.val / 32, by omega⟩ 0 n)) (x3 (ix3 ⟨y.val / 32, by omega⟩ 1 n))
          (Ideal.ofBits .f16 (x4 (ix2 ⟨y.val / 256, by omega⟩ n))) (gridOf x5) (y.val % 32) := by
  show wAt x3 (dUp x4) _ _ _ y n = _
  unfold wAt
  rw [dUp_half, halfVal_eq, ← cell_eq x5 _ _ _ (y.val % 32) (Nat.mod_lt _ (by decide)) ⟨y.val % 16 / 2, by omega⟩
    (by show y.val % 16 / 2 = y.val % 32 % 16 / 2; omega)]
  rw [show y.val % 32 % 2 = y.val % 2 by omega]
  rfl

end Cert.KernelIdeal.Val
-- ==== Proof.Math.Target.lean ====
module

public import proofs.«01_k».proof.Proof.Math.Weight
public import Idealize.ShloMosaic.Lib.ValueIdx

/-! # The result both programs compute -/

@[expose] public section

noncomputable section

namespace Cert.Words

open Idealize.ShloMosaic Idealize.ShloMosaic.ValueIdx

/-- The weight at row `n` and input `y` of a quantized matrix: words `q`, scales `s` as half-precision bits, grid `g`. -/
def weight (q : (⟨3, ![18944, 112, 2]⟩ : Shape).Idx → BitVec 32) (s : (⟨2, ![18944, 14]⟩ : Shape).Idx → BitVec 16)
    (g : (⟨2, ![256, 8]⟩ : Shape).Idx → BitVec 8) (n : Fin 18944) (y : Fin 3584) : EReal :=
  wgt (q (ix3 n ⟨y.val / 32, by omega⟩ 0)) (q (ix3 n ⟨y.val / 32, by omega⟩ 1))
    (Ideal.ofBits .f16 (s (ix2 n ⟨y.val / 256, by omega⟩))) (fun r j => g (ix2 r j)) (y.val % 32)

/-- The gated product of an input row with a gate row and an up row. -/
def row (x wg wu : Fin 3584 → EReal) : EReal := gated (∑ k, x k * wg k) (∑ k, x k * wu k)

/-- The result: every input row against every pair of weight rows. -/
def target (a0 : (⟨3, ![12, 128, 3584]⟩ : Shape).Idx → EReal) (a1 : (⟨3, ![18944, 112, 2]⟩ : Shape).Idx → BitVec 32)
    (a2 : (⟨2, ![18944, 14]⟩ : Shape).Idx → BitVec 16) (a3 : (⟨3, ![18944, 112, 2]⟩ : Shape).Idx → BitVec 32)
    (a4 : (⟨2, ![18944, 14]⟩ : Shape).Idx → BitVec 16) (a5 : (⟨2, ![256, 8]⟩ : Shape).Idx → BitVec 8) :
    (⟨3, ![12, 128, 18944]⟩ : Shape).Idx → EReal := fun i =>
  row (fun k => a0 (ix3 (i 0) (i 1) k)) (weight a1 a2 a5 (i 2)) (weight a3 a4 a5 (i 2))

end Cert.Words

end
-- ==== Proof.KernelIdeal.Result.lean ====
module

public import proofs.«01_k».proof.Proof.KernelIdeal.Launch
public import proofs.«01_k».proof.Proof.KernelIdeal.Cell
public import proofs.«01_k».proof.Proof.Math.Target
public import Idealize.ShloMosaic.Lib.Pipeline.ValueKit
public import Idealize.ShloMosaic.Lib.ValueLayout
public import Idealize.ShloMosaic.Lib.IdealHost

/-
The kernel's result array: each block's columns are the gated products, the blocks tile the array, and the host's
transposes and reshapes around the launch only rename indices.
-/

@[expose] public section

set_option maxRecDepth 16384

noncomputable section

namespace Cert.KernelIdeal.Val

open Gen
open Body hiding frame dats A_eq after0_0 after0_1 after0_2 after0_3 after0_4 after0_5 before0_0 before0_1 before0_2 before0_3 before0_4 before0_5 bodyPre bodyPost sound_body body_obligation run_main_quiescent run_main unchanged defs₀_row
open Idealize.ShloMosaic Idealize.ShloMosaic.TcCoe Idealize.ShloMosaic.Tactic
open Idealize.SL Idealize.SL.Sem
open Idealize.ShloMosaic.Pipeline (Dat Cfg Window)
open Cert.Words

/-- The product's left operand is read at the row of the output. -/
theorem lhs_0 (i : S1536x256.Idx) (q : dot_S1536x3584_S3584x256_S1536x256_1_0_0_1_n_n.contr.Idx) :
    (dot_S1536x3584_S3584x256_S1536x256_1_0_0_1_n_n.lhsIdx i q 0).val = (i 0).val := by
  unfold DotDims.lhsIdx
  rw [dif_neg (show ¬(0 : Fin S1536x3584.rank) ∈ dot_S1536x3584_S3584x256_S1536x256_1_0_0_1_n_n.lhsBatch by decide), dif_pos (show (0 : Fin S1536x3584.rank) ∈ dot_S1536x3584_S3584x256_S1536x256_1_0_0_1_n_n.lhsNonContracting by decide)]
  rfl

/-- The product's left operand is read at the summed column. -/
theorem lhs_1 (i : S1536x256.Idx) (q : dot_S1536x3584_S3584x256_S1536x256_1_0_0_1_n_n.contr.Idx) :
    (dot_S1536x3584_S3584x256_S1536x256_1_0_0_1_n_n.lhsIdx i q 1).val = (q ⟨0, by decide⟩).val :=
  dot_S1536x3584_S3584x256_S1536x256_1_0_0_1_n_n.lhsIdx_val_of_single rfl i q

/-- The product's right operand is read at the column of the output. -/
theorem rhs_1 (i : S1536x256.Idx) (q : dot_S1536x3584_S3584x256_S1536x256_1_0_0_1_n_n.contr.Idx) :
    (dot_S1536x3584_S3584x256_S1536x256_1_0_0_1_n_n.rhsIdx i q 1).val = (i 1).val := by
  unfold DotDims.rhsIdx
  rw [dif_neg (show ¬(1 : Fin S3584x256.rank) ∈ dot_S1536x3584_S3584x256_S1536x256_1_0_0_1_n_n.rhsBatch by decide), dif_pos (show (1 : Fin S3584x256.rank) ∈ dot_S1536x3584_S3584x256_S1536x256_1_0_0_1_n_n.rhsNonContracting by decide)]
  rfl

/-- The product's right operand is read at the summed row. -/
theorem rhs_0 (i : S1536x256.Idx) (q : dot_S1536x3584_S3584x256_S1536x256_1_0_0_1_n_n.contr.Idx) :
    (dot_S1536x3584_S3584x256_S1536x256_1_0_0_1_n_n.rhsIdx i q 0).val = (q ⟨0, by decide⟩).val :=
  dot_S1536x3584_S3584x256_S1536x256_1_0_0_1_n_n.rhsIdx_val_of_single rfl i q

/-- The product with a zero accumulator at an index. -/
theorem mm_apply (x : FVec Ideal S1536x3584 .bf16) (w : FVec Ideal S3584x256 .bf16) (r : Fin 1536) (n : Fin 256) :
    matmul dot_S1536x3584_S3584x256_S1536x256_1_0_0_1_n_n none x w (constant (F := Ideal) S1536x256 .f32 0x00000000#32) (ix2 r n)
      = ∑ k : Fin 3584, x (ix2 r k) * w (ix2 k n) := by
  show FloatOps.matmul dot_S1536x3584_S3584x256_S1536x256_1_0_0_1_n_n none x w (constant (F := Ideal) S1536x256 .f32 0x00000000#32) (ix2 r n) = _
  rw [Ideal.matmul_constant_zero_apply, ← Equiv.sum_comp (ValueIdx.contrEquiv1 dot_S1536x3584_S3584x256_S1536x256_1_0_0_1_n_n 3584 rfl rfl).symm]
  refine Finset.sum_congr rfl fun k _ => ?_
  have hk := ValueIdx.contrEquiv1_symm_val dot_S1536x3584_S3584x256_S1536x256_1_0_0_1_n_n 3584 rfl rfl k
  have el : dot_S1536x3584_S3584x256_S1536x256_1_0_0_1_n_n.lhsIdx (ix2 r n) ((ValueIdx.contrEquiv1 dot_S1536x3584_S3584x256_S1536x256_1_0_0_1_n_n 3584 rfl rfl).symm k) = ix2 r k := funext fun a => Fin.ext (by
    match a with
    | ⟨0, _⟩ => exact lhs_0 _ _
    | ⟨1, _⟩ => exact (lhs_1 _ _).trans hk)
  have er : dot_S1536x3584_S3584x256_S1536x256_1_0_0_1_n_n.rhsIdx (ix2 r n) ((ValueIdx.contrEquiv1 dot_S1536x3584_S3584x256_S1536x256_1_0_0_1_n_n 3584 rfl rfl).symm k) = ix2 k n := funext fun a => Fin.ext (by
    match a with
    | ⟨0, _⟩ => exact (rhs_0 _ _).trans hk
    | ⟨1, _⟩ => exact rhs_1 _ _)
  rw [el, er]

/-- The output block at an index. -/
theorem outVal_apply (x0 : Vec Ideal S1536x3584 .bf16) (x1 : Vec Ideal S112x2x256 .i32) (x2 : Vec Ideal S14x256 .i16)
    (x3 : Vec Ideal S112x2x256 .i32) (x4 : Vec Ideal S14x256 .i16) (x5 : Vec Ideal S8x256 .i8) (r : Fin 1536) (n : Fin 256) :
    outVal x0 x1 x2 x3 x4 x5 (ix2 r n)
      = row (fun k => x0 (ix2 r k)) (fun k => wOf x1 (dGate x2) x5 (ix2 k n)) (fun k => wOf x3 (dUp x4) x5 (ix2 k n)) := by
  unfold outVal
  generalize wOf x1 (dGate x2) x5 = wg
  generalize wOf x3 (dUp x4) x5 = wu
  unfold k0_pay1 k0_pay508
  dsimp only
  rw [shapeCast_self]
  have hg := mm_apply x0 wg r n
  have hu := mm_apply x0 wu r n
  generalize matmul dot_S1536x3584_S3584x256_S1536x256_1_0_0_1_n_n none x0 wg (constant (F := Ideal) S1536x256 .f32 0x00000000#32) = g at hg ⊢
  generalize matmul dot_S1536x3584_S3584x256_S1536x256_1_0_0_1_n_n none x0 wu (constant (F := Ideal) S1536x256 .f32 0x00000000#32) = u at hu ⊢
  show Ideal.div (g (ix2 r n)) (Ideal.ofBits .f32 0x3F800000#32 + Ideal.exp (Ideal.ofBits .f32 0x00000000#32 - g (ix2 r n))) * u (ix2 r n) = _
  rw [Ideal.ofBits_one_f32, Ideal.ofBits_zero_f32, gated_kernel, hg, hu]
  rfl

variable (m : (ℓ : Loc nD τ sig) → Buf (Elt Ideal) ℓ) (ρ : Dev nD → PrngReg)

/-- The input with its two row axes merged. -/
theorem rows_apply {α : Type} (x : S12x128x3584.Idx → α) (r : Fin 1536) (k : Fin 3584) :
    shapeCast S1536x3584 x shapeCasts_S12x128x3584_S1536x3584 (ix2 r k) = x (ix3 ⟨r.val / 128, by omega⟩ ⟨r.val % 128, by omega⟩ k) :=
  shapeCast_apply _ _ _ _ (by
    rw [Shape.rowMajor_val_three, Shape.rowMajor_val_two]
    show (r.val / 128 * 128 + r.val % 128) * 3584 + k.val = r.val * 3584 + k.val
    omega)

/-- The result with its row axis split. -/
theorem split_apply {α : Type} (x : S1536x18944.Idx → α) (i : S12x128x18944.Idx) :
    shapeCast S12x128x18944 x shapeCasts_S1536x18944_S12x128x18944 i
      = x (ix2 ⟨(i 0).val * 128 + (i 1).val, by have h0 : (i 0).val < 12 := (i 0).isLt; have h1 : (i 1).val < 128 := (i 1).isLt; omega⟩ (i 2)) :=
  shapeCast_apply _ _ _ _ (by
    rw [Shape.rowMajor_val_three, Shape.rowMajor_val_two]
    rfl)

/-- The words with their row axis last. -/
theorem words_apply {α : Type} (x : S18944x112x2.Idx → α) (u : Fin 112) (w : Fin 2) (n : Fin 18944) :
    transpose S112x2x18944 [1, 2, 0] x transposes_S18944x112x2_S112x2x18944_1_2_0 (ix3 u w n) = x (ix3 n u w) :=
  transpose_apply _ x _ _ _ fun a => match a with | ⟨0, _⟩ => rfl | ⟨1, _⟩ => rfl | ⟨2, _⟩ => rfl

/-- The scales with their row axis last. -/
theorem scales_apply {α : Type} (x : S18944x14.Idx → α) (u : Fin 14) (n : Fin 18944) :
    transpose S14x18944 [1, 0] x transposes_S18944x14_S14x18944_1_0 (ix2 u n) = x (ix2 n u) :=
  transpose_apply _ x _ _ _ fun a => match a with | ⟨0, _⟩ => rfl | ⟨1, _⟩ => rfl

/-- The grid with its row axis last. -/
theorem grid_apply {α : Type} (x : S256x8.Idx → α) (j : Fin 8) (r : Fin 256) :
    transpose S8x256 [1, 0] x transposes_S256x8_S8x256_1_0 (ix2 j r) = x (ix2 r j) :=
  transpose_apply _ x _ _ _ fun a => match a with | ⟨0, _⟩ => rfl | ⟨1, _⟩ => rfl

/-- The arrays the launch reads, from the arguments. -/
theorem V_v0 (c : Dev nD) : V m c main_v0 = shapeCast S1536x3584 (m ((c : Thread nD τ).loc main_arg0)) shapeCasts_S12x128x3584_S1536x3584 := by
  unfold V V0 hostOps0
  after_results_simp
  rfl

/-- The launch reads the gate words transposed. -/
theorem V_v2 (c : Dev nD) : V m c main_v2 = transpose S112x2x18944 [1, 2, 0] (m ((c : Thread nD τ).loc main_arg1)) transposes_S18944x112x2_S112x2x18944_1_2_0 := by
  unfold V V0 hostOps0
  after_results_simp
  rfl

/-- The launch reads the gate scales transposed. -/
theorem V_v3 (c : Dev nD) : V m c main_v3 = transpose S14x18944 [1, 0] (m ((c : Thread nD τ).loc main_arg2)) transposes_S18944x14_S14x18944_1_0 := by
  unfold V V0 hostOps0
  after_results_simp
  rfl

/-- The launch reads the up words transposed. -/
theorem V_v5 (c : Dev nD) : V m c main_v5 = transpose S112x2x18944 [1, 2, 0] (m ((c : Thread nD τ).loc main_arg3)) transposes_S18944x112x2_S112x2x18944_1_2_0 := by
  unfold V V0 hostOps0
  after_results_simp
  rfl

/-- The launch reads the up scales transposed. -/
theorem V_v6 (c : Dev nD) : V m c main_v6 = transpose S14x18944 [1, 0] (m ((c : Thread nD τ).loc main_arg4)) transposes_S18944x14_S14x18944_1_0 := by
  unfold V V0 hostOps0
  after_results_simp
  rfl

/-- The launch reads the grid transposed. -/
theorem V_v7 (c : Dev nD) : V m c main_v7 = transpose S8x256 [1, 0] (m ((c : Thread nD τ).loc main_arg5)) transposes_S256x8_S8x256_1_0 := by
  unfold V V0 hostOps0
  after_results_simp
  rfl

/-- The blocks' places in their arrays. -/
theorem idx_0 : ∀ t : Fin cfg0.N, ∀ a : Fin 2, win0_0.index t a = 0 := (by decide +kernel : ∀ t : Fin grid0.N, ∀ a : Fin 2, win0_0.index t a = 0)
/-- Window 1 (gate words) takes column block `t` at point `t`. -/
theorem idx_1 : ∀ t : Fin cfg0.N, win0_1.index t (0 : Fin 3) = 0 ∧ win0_1.index t (1 : Fin 3) = 0 ∧ win0_1.index t (2 : Fin 3) = t.val :=
  (by decide +kernel : ∀ t : Fin grid0.N, win0_1.index t (0 : Fin 3) = 0 ∧ win0_1.index t (1 : Fin 3) = 0 ∧ win0_1.index t (2 : Fin 3) = t.val)
/-- Window 2 (gate scales) takes column block `t` at point `t`. -/
theorem idx_2 : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
/-- Window 3 (up words) takes column block `t` at point `t`. -/
theorem idx_3 : ∀ t : Fin cfg0.N, win0_3.index t (0 : Fin 3) = 0 ∧ win0_3.index t (1 : Fin 3) = 0 ∧ win0_3.index t (2 : Fin 3) = t.val :=
  (by decide +kernel : ∀ t : Fin grid0.N, win0_3.index t (0 : Fin 3) = 0 ∧ win0_3.index t (1 : Fin 3) = 0 ∧ win0_3.index t (2 : Fin 3) = t.val)
/-- Window 4 (up scales) takes column block `t` at point `t`. -/
theorem idx_4 : ∀ t : Fin cfg0.N, win0_4.index t (0 : Fin 2) = 0 ∧ win0_4.index t (1 : Fin 2) = t.val :=
  (by decide +kernel : ∀ t : Fin grid0.N, win0_4.index t (0 : Fin 2) = 0 ∧ win0_4.index t (1 : Fin 2) = t.val)
/-- Window 5 (the grid) takes the whole array at every point. -/
theorem idx_5 : ∀ t : Fin cfg0.N, ∀ a : Fin 2, win0_5.index t a = 0 := (by decide +kernel : ∀ t : Fin grid0.N, ∀ a : Fin 2, win0_5.index t a = 0)
/-- Window 6 (the result) takes column block `t` at point `t`. -/
theorem idx_6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)

/-- There are 74 points. -/
theorem t_lt (t : Fin cfg0.N) : t.val < 74 := lt_of_lt_of_eq t.isLt N_0

/-- The array column of column `n` of block `t`. -/
def col (t : Fin cfg0.N) (n : Fin 256) : Fin 18944 := ⟨t.val * 256 + n.val, by have := t_lt t; omega⟩

/-- The input blocks read from the arguments. -/
theorem blk_0 (c : Dev nD) (t : Fin cfg0.N) (r : Fin 1536) (k : Fin 3584) :
    (iblk m c 0 t : Vec Ideal S1536x3584 .bf16) (ix2 r k) = (m ((c : Thread nD τ).loc main_arg0) : S12x128x3584.Idx → EReal) (ix3 ⟨r.val / 128, by omega⟩ ⟨r.val % 128, by omega⟩ k) := by
  show V m c main_v0 (((cfg0.win 0).blk t).view.emb (ix2 r k)) = _
  rw [V_v0]
  refine Eq.trans (congrArg (shapeCast S1536x3584 _ _) (funext fun a => Fin.ext ?_)) (rows_apply _ r k)
  match a with
  | ⟨0, _⟩ => show win0_0.index t (0 : Fin 2) * 1536 + 1 * r.val = r.val; rw [idx_0]; omega
  | ⟨1, _⟩ => show win0_0.index t (1 : Fin 2) * 3584 + 1 * k.val = k.val; rw [idx_0]; omega

/-- The block of gate words at point `t`, read from the argument. -/
theorem blk_1 (c : Dev nD) (t : Fin cfg0.N) (u : Fin 112) (w : Fin 2) (n : Fin 256) :
    (iblk m c 1 t : Vec Ideal S112x2x256 .i32) (ix3 u w n) = (m ((c : Thread nD τ).loc main_arg1) : S18944x112x2.Idx → BitVec 32) (ix3 (col t n) u w) := by
  show V m c main_v2 (((cfg0.win 1).blk t).view.emb (ix3 u w n)) = _
  rw [V_v2]
  refine Eq.trans (congrArg (transpose S112x2x18944 [1, 2, 0] _ _) (funext fun a => Fin.ext ?_)) (words_apply _ u w (col t n))
  obtain ⟨h0, h1, h2⟩ := idx_1 t
  match a with
  | ⟨0, _⟩ => show win0_1.index t (0 : Fin 3) * 112 + 1 * u.val = u.val; rw [h0]; omega
  | ⟨1, _⟩ => show win0_1.index t (1 : Fin 3) * 2 + 1 * w.val = w.val; rw [h1]; omega
  | ⟨2, _⟩ => show win0_1.index t (2 : Fin 3) * 256 + 1 * n.val = t.val * 256 + n.val; rw [h2]; omega

/-- The block of gate scales at point `t`, read from the argument. -/
theorem blk_2 (c : Dev nD) (t : Fin cfg0.N) (u : Fin 14) (n : Fin 256) :
    (iblk m c 2 t : Vec Ideal S14x256 .i16) (ix2 u n) = (m ((c : Thread nD τ).loc main_arg2) : S18944x14.Idx → BitVec 16) (ix2 (col t n) u) := by
  show V m c main_v3 (((cfg0.win 2).blk t).view.emb (ix2 u n)) = _
  rw [V_v3]
  refine Eq.trans (congrArg (transpose S14x18944 [1, 0] _ _) (funext fun a => Fin.ext ?_)) (scales_apply _ u (col t n))
  obtain ⟨h0, h1⟩ := idx_2 t
  match a with
  | ⟨0, _⟩ => show win0_2.index t (0 : Fin 2) * 14 + 1 * u.val = u.val; rw [h0]; omega
  | ⟨1, _⟩ => show win0_2.index t (1 : Fin 2) * 256 + 1 * n.val = t.val * 256 + n.val; rw [h1]; omega

/-- The block of up words at point `t`, read from the argument. -/
theorem blk_3 (c : Dev nD) (t : Fin cfg0.N) (u : Fin 112) (w : Fin 2) (n : Fin 256) :
    (iblk m c 3 t : Vec Ideal S112x2x256 .i32) (ix3 u w n) = (m ((c : Thread nD τ).loc main_arg3) : S18944x112x2.Idx → BitVec 32) (ix3 (col t n) u w) := by
  show V m c main_v5 (((cfg0.win 3).blk t).view.emb (ix3 u w n)) = _
  rw [V_v5]
  refine Eq.trans (congrArg (transpose S112x2x18944 [1, 2, 0] _ _) (funext fun a => Fin.ext ?_)) (words_apply _ u w (col t n))
  obtain ⟨h0, h1, h2⟩ := idx_3 t
  match a with
  | ⟨0, _⟩ => show win0_3.index t (0 : Fin 3) * 112 + 1 * u.val = u.val; rw [h0]; omega
  | ⟨1, _⟩ => show win0_3.index t (1 : Fin 3) * 2 + 1 * w.val = w.val; rw [h1]; omega
  | ⟨2, _⟩ => show win0_3.index t (2 : Fin 3) * 256 + 1 * n.val = t.val * 256 + n.val; rw [h2]; omega

/-- The block of up scales at point `t`, read from the argument. -/
theorem blk_4 (c : Dev nD) (t : Fin cfg0.N) (u : Fin 14) (n : Fin 256) :
    (iblk m c 4 t : Vec Ideal S14x256 .i16) (ix2 u n) = (m ((c : Thread nD τ).loc main_arg4) : S18944x14.Idx → BitVec 16) (ix2 (col t n) u) := by
  show V m c main_v6 (((cfg0.win 4).blk t).view.emb (ix2 u n)) = _
  rw [V_v6]
  refine Eq.trans (congrArg (transpose S14x18944 [1, 0] _ _) (funext fun a => Fin.ext ?_)) (scales_apply _ u (col t n))
  obtain ⟨h0, h1⟩ := idx_4 t
  match a with
  | ⟨0, _⟩ => show win0_4.index t (0 : Fin 2) * 14 + 1 * u.val = u.val; rw [h0]; omega
  | ⟨1, _⟩ => show win0_4.index t (1 : Fin 2) * 256 + 1 * n.val = t.val * 256 + n.val; rw [h1]; omega

/-- The block of the grid, read from the argument. -/
theorem blk_5 (c : Dev nD) (t : Fin cfg0.N) (j : Fin 8) (r : Fin 256) :
    (iblk m c 5 t : Vec Ideal S8x256 .i8) (ix2 j r) = (m ((c : Thread nD τ).loc main_arg5) : S256x8.Idx → BitVec 8) (ix2 r j) := by
  show V m c main_v7 (((cfg0.win 5).blk t).view.emb (ix2 j r)) = _
  rw [V_v7]
  refine Eq.trans (congrArg (transpose S8x256 [1, 0] _ _) (funext fun a => Fin.ext ?_)) (grid_apply _ j r)
  match a with
  | ⟨0, _⟩ => show win0_5.index t (0 : Fin 2) * 8 + 1 * j.val = j.val; rw [idx_5]; omega
  | ⟨1, _⟩ => show win0_5.index t (1 : Fin 2) * 256 + 1 * r.val = r.val; rw [idx_5]; omega

/-- The target at this memory's arguments. -/
def goal (c : Dev nD) : S12x128x18944.Idx → EReal :=
  target (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The target with its two row axes merged. -/
def goal2 (c : Dev nD) : S1536x18944.Idx → EReal := fun i =>
  goal m c (ix3 ⟨(i 0).val / 128, by have h : (i 0).val < 1536 := (i 0).isLt; omega⟩ ⟨(i 0).val % 128, by omega⟩ (i 1))

/-- Each block holds the target's columns. -/
theorem block_apply (c : Dev nD) (t : Fin cfg0.N) (r : Fin 1536) (n : Fin 256) :
    colBlock m c t (ix2 r n) = goal2 m c (ix2 r (col t n)) := by
  have hw : gridOf (iblk m c 5 t) = fun r j => (m ((c : Thread nD τ).loc main_arg5) : S256x8.Idx → BitVec 8) (ix2 r j) := by
    funext r j
    exact blk_5 m c t j r
  show outVal _ _ _ _ _ _ (ix2 r n) = _
  rw [outVal_apply]
  show row _ _ _ = row _ _ _
  refine congr (congr (congrArg row ?_) ?_) ?_
  · funext k; exact blk_0 m c t r k
  · funext k
    rw [wOf_gate, hw, blk_1, blk_1, blk_2]
    rfl
  · funext k
    rw [wOf_up, hw, blk_3, blk_3, blk_4]
    rfl

/-- The launch leaves the target in its output array. -/
theorem arr_eq (c : Dev nD) : (dats m 0 c).arrAt 6 cfg0.N = goal2 m c := by
  refine (dats m 0 c).arrAt_eq_of_covers 6 _ (by decide +kernel) fun t hf y => ?_
  blk_simp
  rw [after0_6]
  obtain ⟨h0, h1⟩ := idx_6 t
  have h := block_apply m c t (y (0 : Fin 2)) (y (1 : Fin 2))
  refine Eq.trans (congrArg (colBlock m c t) (funext fun a => ?_)) (h.trans (congrArg (goal2 m c) (funext fun a => Fin.ext ?_)))
  · match a with
    | ⟨0, _⟩ => rfl
    | ⟨1, _⟩ => rfl
  · match a with
    | ⟨0, _⟩ => show (y (0 : Fin 2)).val = win0_6.index t (0 : Fin 2) * 1536 + 1 * (y (0 : Fin 2)).val; rw [h0]; omega
    | ⟨1, _⟩ => show t.val * 256 + (y (1 : Fin 2)).val = win0_6.index t (1 : Fin 2) * 256 + 1 * (y (1 : Fin 2)).val; rw [h1]; omega

/-- The host's last line splits the row axis: the result is the target. -/
theorem tail_eq (c : Dev nD) : Pipeline.afterTail₀ cfgs (dats m) 0 (V0 m) [hostOps1] c main_v9 = goal m c := by
  unfold Pipeline.afterTail₀ hostOps1
  after_results_simp
  have h : Pipeline.withArrays spec0 c (V0 m c) (fun w => (dats m 0 c).arrAt w cfg0.N) (Proc.devRef .tc main_v8) = goal2 m c :=
    (Pipeline.withArrays_arr spec0 launch0.win.arr_inj c (V0 m c) _ 6).trans (arr_eq m c)
  show shapeCast S12x128x18944 (Pipeline.withArrays spec0 c (V0 m c) (fun w => (dats m 0 c).arrAt w cfg0.N) (Proc.devRef .tc main_v8)) shapeCasts_S1536x18944_S12x128x18944 = _
  rw [h]
  funext i
  have h0 : (i 0).val < 12 := (i 0).isLt
  have h1 : (i 1).val < 128 := (i 1).isLt
  refine (split_apply _ i).trans (congrArg (goal m c) (funext fun a => Fin.ext ?_))
  match a with
  | ⟨0, _⟩ => show ((i 0).val * 128 + (i 1).val) / 128 = (i 0).val; omega
  | ⟨1, _⟩ => show ((i 0).val * 128 + (i 1).val) % 128 = (i 1).val; omega
  | ⟨2, _⟩ => rfl

/-- Every run ends with the target in the result array and the arguments as launched. -/
theorem run : θ_run defs (onTc (τ := τ) (main (F := Ideal))) ⟨m, fun _ => 0, ρ⟩ (fun r => ∀ c : Dev nD,
      r.2.mem ((c.tc : Thread nD τ).loc main_v9) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Val

end
-- ==== Proof.ReferenceIdeal.Weight.lean ====
module

public import proofs.«01_k».proof.Proof.Gen.ReferenceIdeal.Read
public import proofs.«01_k».proof.Proof.Math.Weight

/-! # The reference's dequantized weights

Every entry of the reference's two dense weight matrices is the weight that its two code words, its scale and the grid
stand for. -/

@[expose] public section

noncomputable section

namespace Cert.ReferenceIdeal.Read

open Cert.ReferenceIdeal Cert.ReferenceIdeal.Gen Idealize.ShloMosaic Idealize.ShloMosaic.TcCoe Cert.Words
open Idealize.ShloMosaic.ValueIdx

/-- The index of the row that element `i` of the gathered array is taken from. -/
abbrev rowIdx (i : S18944x112x4x8.Idx) : S18944x112x4x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩

/-- The gather takes whole rows: element `i` is the operand's at the indexed row, clamped, and at `i`'s last place. -/
theorem gather_rows_apply {α : Type} (x : S256x8.Idx → α) (idx : IVec S18944x112x4x1 32) (i : S18944x112x4x8.Idx) :
    Host.gather gather_S256x8_S18944x112x4x1_S18944x112x4x8_3_0_n_n_0_3_18 x idx i
      = x (ix2 ⟨min (idx (rowIdx i)).toInt.toNat 255, by omega⟩ ⟨(i 3).val, (i 3).isLt⟩) := by
  unfold Host.gather
  congr 1
  funext a
  refine Fin.ext ?_
  show gather_S256x8_S18944x112x4x1_S18944x112x4x8_3_0_n_n_0_3_18.start i idx a
      + gather_S256x8_S18944x112x4x1_S18944x112x4x8_3_0_n_n_0_3_18.batchCoord i a
      + gather_S256x8_S18944x112x4x1_S18944x112x4x8_3_0_n_n_0_3_18.offCoord i a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (by decide), GatherDims.offCoord_eq_zero _ _ _ (by decide)]
    simp only [Nat.add_zero]
    unfold GatherDims.start
    rw [dif_pos (show (0 : Fin 2) ∈ gather_S256x8_S18944x112x4x1_S18944x112x4x8_3_0_n_n_0_3_18.startIndexMap from List.mem_singleton.mpr rfl)]
    have hsi : gather_S256x8_S18944x112x4x1_S18944x112x4x8_3_0_n_n_0_3_18.siIdx i
        ⟨List.idxOf (0 : Fin 2) gather_S256x8_S18944x112x4x1_S18944x112x4x8_3_0_n_n_0_3_18.startIndexMap,
          List.idxOf_lt_length_iff.2 (List.mem_singleton.mpr rfl)⟩ = rowIdx i := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ (by decide)]
    unfold GatherDims.start GatherDims.offCoord
    rw [dif_neg (by decide), dif_pos (by decide)]
    simp only [Nat.zero_add, Nat.add_zero]
    rfl

/-- The shift by eight times the field number. -/
theorem shr8 (a : BitVec 32) (f : Nat) (hf : f < 4) : IntOp.shrui .host a (IntOp.muli 8#32 (BitVec.ofNat 32 f)) = a >>> (8 * f) := by
  interval_cases f <;> rfl

/-- The shift by seven times the field number. -/
theorem shr7 (a : BitVec 32) (f : Nat) (hf : f < 4) : IntOp.shrui .host a (IntOp.muli 7#32 (BitVec.ofNat 32 f)) = a >>> (7 * f) := by
  interval_cases f <;> rfl

/-- The shift by the element number. -/
theorem shr1 (a : BitVec 32) (e : Nat) (he : e < 8) : IntOp.shrui .host a (BitVec.ofNat 32 e) = a >>> e := by
  interval_cases e <;> rfl

/-- The grid row a field's bits choose is in range. -/
theorem row_min (w : BitVec 32) : min (w &&& 255#32).toInt.toNat 255 = w.toNat % 256 := by
  have h : (w &&& 255#32).toNat = w.toNat % 256 := by
    rw [BitVec.toNat_and]
    exact Nat.and_two_pow_sub_one_eq_mod w.toNat 8
  have hl : w.toNat % 256 < 256 := Nat.mod_lt _ (by decide)
  rw [BitVec.toInt_eq_toNat_of_lt (by omega), h, Int.toNat_natCast]
  omega

variable (x1 : (⟨S18944x112x2, .i32⟩ : BufTy).Contents (Elt Ideal)) (x5 : (⟨S256x8, .i8⟩ : BufTy).Contents (Elt Ideal))
  (r0 : (⟨S18944x14, .f32⟩ : BufTy).Contents (Elt Ideal))

/-- The first and the second code word. -/
theorem v4_read (p : S18944x112.Idx) : val_main_v4 (F := Ideal) x1 p = x1 (ix3 ⟨(p 0).val, (p 0).isLt⟩ ⟨(p 1).val, (p 1).isLt⟩ 0) := by
  have h0 : (p 0).val < 18944 := (p 0).isLt
  have h1 : (p 1).val < 112 := (p 1).isLt
  rw [val_main_v4_apply, val_main_v3_apply]
  congr 1
  funext a
  match a with
  | ⟨0, _⟩ => exact Fin.ext (show ((p 0).val * 112 + (p 1).val) / 112 = (p 0).val by omega)
  | ⟨1, _⟩ => exact Fin.ext (show ((p 0).val * 112 + (p 1).val) / 1 % 112 = (p 1).val by omega)
  | ⟨2, _⟩ => rfl

/-- The second word of a sub-block, read from the gate words. -/
theorem v6_read (p : S18944x112.Idx) : val_main_v6 (F := Ideal) x1 p = x1 (ix3 ⟨(p 0).val, (p 0).isLt⟩ ⟨(p 1).val, (p 1).isLt⟩ 1) := by
  have h0 : (p 0).val < 18944 := (p 0).isLt
  have h1 : (p 1).val < 112 := (p 1).isLt
  rw [val_main_v6_apply, val_main_v5_apply]
  congr 1
  funext a
  match a with
  | ⟨0, _⟩ => exact Fin.ext (show ((p 0).val * 112 + (p 1).val) / 112 = (p 0).val by omega)
  | ⟨1, _⟩ => exact Fin.ext (show ((p 0).val * 112 + (p 1).val) / 1 % 112 = (p 1).val by omega)
  | ⟨2, _⟩ => rfl

/-- The sub-block's scale. -/
theorem v16_read (p : S18944x112.Idx) : val_main_v16 (F := Ideal) x1 r0 p
    = r0 (ix2 ⟨(p 0).val, (p 0).isLt⟩ ⟨(p 1).val / 8, by have h1 : (p 1).val < 112 := (p 1).isLt; omega⟩)
      * (half + (((x1 (ix3 ⟨(p 0).val, (p 0).isLt⟩ ⟨(p 1).val, (p 1).isLt⟩ 1) >>> 28).toNat : ℝ) : EReal)) * quarter := by
  have h0 : (p 0).val < 18944 := (p 0).isLt
  have h1 : (p 1).val < 112 := (p 1).isLt
  rw [val_main_v16_apply, val_main_v14_apply, val_main_v15_apply, val_main_v13_apply, val_main_v12_apply, val_main_v11_apply,
    val_main_v10_apply, val_main_v9_apply, val_main_v8_apply, val_main_v7_apply, v6_read, val_main_cst_apply, val_main_cst_0_apply,
    val_main_c_apply]
  have e : idx_main_v10 (idx_main_v11 p) = ix2 ⟨(p 0).val, (p 0).isLt⟩ ⟨(p 1).val / 8, by omega⟩ := by
    funext a
    match a with
    | ⟨0, _⟩ => exact Fin.ext (show ((p 0).val * 112 + (p 1).val) / 112 = (p 0).val by omega)
    | ⟨1, _⟩ => exact Fin.ext (show ((p 0).val * 112 + (p 1).val) / 8 % 14 = (p 1).val / 8 by omega)
  rw [e]
  rfl

/-- The field's grid row, as the eight bits of the first word. -/
theorem v26_read (q : S18944x112x4.Idx) : val_main_v26 (F := Ideal) x1 q
    = (x1 (ix3 ⟨(q 0).val, (q 0).isLt⟩ ⟨(q 1).val, (q 1).isLt⟩ 0) >>> (8 * (q 2).val)) &&& 255#32 := by
  rw [val_main_v26_apply, val_main_v24_apply, val_main_v25_apply, val_main_v22_apply, val_main_v18_apply, v4_read,
    val_main_v23_apply, val_main_v21_apply, val_main_v20_apply, val_main_v19_apply, val_main_v17_apply, val_main_c_1_apply,
    val_main_c_2_apply]
  rw [show ((idx_main_v21 (idx_main_v23 q)) 0).val = (q 2).val from rfl, shr8 _ _ (q 2).isLt]
  rfl

/-- The field's sign code with its parity, as an eight-bit pattern. -/
theorem v41_read (q : S18944x112x4.Idx) : val_main_v41 (F := Ideal) x1 q
    = pattern ((x1 (ix3 ⟨(q 0).val, (q 0).isLt⟩ ⟨(q 1).val, (q 1).isLt⟩ 1) >>> (7 * (q 2).val)) &&& 127#32) := by
  have e : val_main_v35 (F := Ideal) x1 q
      = (x1 (ix3 ⟨(q 0).val, (q 0).isLt⟩ ⟨(q 1).val, (q 1).isLt⟩ 1) >>> (7 * (q 2).val)) &&& 127#32 := by
    rw [val_main_v35_apply, val_main_v33_apply, val_main_v34_apply, val_main_v31_apply, val_main_v27_apply, v6_read,
      val_main_v32_apply, val_main_v30_apply, val_main_v29_apply, val_main_v28_apply, val_main_v17_apply, val_main_c_3_apply,
      val_main_c_4_apply]
    rw [show ((idx_main_v30 (idx_main_v32 q)) 0).val = (q 2).val from rfl, shr7 _ _ (q 2).isLt]
    rfl
  rw [val_main_v41_apply, val_main_v40_apply, val_main_v38_apply, val_main_v36_apply, e, val_main_v37_apply, val_main_v39_apply,
    val_main_c_5_apply, val_main_c_6_apply]
  rfl

/-- The bit that says whether the weight is negative. -/
theorem v59_read (i : S18944x112x4x8.Idx) : val_main_v59 (F := Ideal) x1 i
    = BitVec.ofBool (neg ((x1 (ix3 ⟨(i 0).val, (i 0).isLt⟩ ⟨(i 1).val, (i 1).isLt⟩ 1) >>> (7 * (i 2).val)) &&& 127#32) (i 3).val) := by
  rw [val_main_v59_apply, val_main_v49_apply, val_main_v58_apply, val_main_v47_apply, val_main_v48_apply, val_main_v45_apply,
    val_main_v43_apply, v41_read, val_main_v46_apply, val_main_v44_apply, val_main_v42_apply, val_main_c_7_apply, val_main_c_8_apply]
  rw [show ((idx_main_v44 (idx_main_v46 i)) 0).val = (i 3).val from rfl, shr1 _ _ (i 3).isLt]
  rfl

/-- The grid's byte. -/
theorem v53_read (i : S18944x112x4x8.Idx) : val_main_v53 (F := Ideal) x1 x5 i
    = (x5 (ix2 ⟨(x1 (ix3 ⟨(i 0).val, (i 0).isLt⟩ ⟨(i 1).val, (i 1).isLt⟩ 0) >>> (8 * (i 2).val)).toNat % 256, Nat.mod_lt _ (by decide)⟩
        ⟨(i 3).val, (i 3).isLt⟩)).setWidth 32 := by
  unfold val_main_v53
  rw [gather_rows_apply, val_main_v50_apply]
  congr 2
  refine congrArg (fun r => ix2 r _) (Fin.ext ?_)
  show min (val_main_v52 (F := Ideal) x1 (rowIdx i)).toInt.toNat 255 = _
  rw [val_main_v52_apply, val_main_v51_apply, v26_read, row_min]

/-- The weight matrix, entry by entry. -/
theorem v63_read (n : Fin 18944) (y : Fin 3584) : val_main_v63 (F := Ideal) x1 x5 r0 (ix2 n y)
    = wgt (x1 (ix3 n ⟨y.val / 32, by omega⟩ 0)) (x1 (ix3 n ⟨y.val / 32, by omega⟩ 1)) (r0 (ix2 n ⟨y.val / 256, by omega⟩))
        (fun r j => x5 (ix2 r j)) (y.val % 32) := by
  rw [val_main_v63_apply]
  have e : idx_main_v63 (ix2 n y) = ix4 n ⟨y.val / 32, by omega⟩ ⟨y.val % 32 / 8, by omega⟩ ⟨y.val % 32 % 8, by omega⟩ := by
    have h0 := n.isLt
    have h1 := y.isLt
    funext a
    match a with
    | ⟨0, _⟩ => exact Fin.ext (show (n.val * 3584 + y.val) / 3584 = n.val by omega)
    | ⟨1, _⟩ => exact Fin.ext (show (n.val * 3584 + y.val) / 32 % 112 = y.val / 32 by omega)
    | ⟨2, _⟩ => exact Fin.ext (show (n.val * 3584 + y.val) / 8 % 4 = y.val % 32 / 8 by omega)
    | ⟨3, _⟩ => exact Fin.ext (show (n.val * 3584 + y.val) % 8 = y.val % 32 % 8 by omega)
  rw [e]
  have m : val_main_v57 (F := Ideal) x1 x5 r0 (ix4 n ⟨y.val / 32, by omega⟩ ⟨y.val % 32 / 8, by omega⟩ ⟨y.val % 32 % 8, by omega⟩)
      = mag (x1 (ix3 n ⟨y.val / 32, by omega⟩ 0)) (x1 (ix3 n ⟨y.val / 32, by omega⟩ 1)) (r0 (ix2 n ⟨y.val / 256, by omega⟩))
        (fun r j => x5 (ix2 r j)) (y.val % 32) := by
    rw [val_main_v57_apply, val_main_v56_apply, val_main_v54_apply, v16_read, val_main_v55_apply, v53_read]
    have d : (⟨y.val / 32 / 8, by omega⟩ : Fin 14) = ⟨y.val / 256, by omega⟩ := Fin.ext (by show y.val / 32 / 8 = y.val / 256; omega)
    show r0 (ix2 n ⟨y.val / 32 / 8, _⟩) * _ * _ * ((((BitVec.setWidth 32 _).toNat : ℝ)) : EReal) = _
    rw [d]
    unfold mag
    rw [BitVec.toNat_setWidth_of_le (by decide)]
  rw [val_main_v62_apply, val_main_v61_apply, val_main_v60_apply, m, v59_read]
  unfold wgt
  show Scalar.select (BitVec.ofBool (neg ((x1 (ix3 n ⟨y.val / 32, _⟩ 1) >>> (7 * (y.val % 32 / 8))) &&& 127#32) (y.val % 32 % 8))) (-_) _ = _
  generalize neg _ _ = b
  cases b <;> rfl

end Cert.ReferenceIdeal.Read
-- ==== Proof.ReferenceIdeal.Result.lean ====
module

public import proofs.«01_k».proof.Proof.ReferenceIdeal.Weight
public import proofs.«01_k».proof.Proof.Math.Target
public import Idealize.ShloMosaic.Lib.Pipeline.ValueKit
public import Idealize.ShloMosaic.Lib.IdealHost

/-
The reference's result array: the scales it reads through its one-point region are the half-precision values, and its
result is the gated product of every input row with every pair of weight rows.
-/

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Idealize.SL Idealize.SL.Sem
open Idealize.ShloMosaic.ValueIdx
open Cert.Words

/-- The up weights are decoded as the gate weights are. -/
theorem up_eq (x3 : (⟨S18944x112x2, .i32⟩ : BufTy).Contents (Elt Ideal)) (x5 : (⟨S256x8, .i8⟩ : BufTy).Contents (Elt Ideal)) (r1 : (⟨S18944x14, .f32⟩ : BufTy).Contents (Elt Ideal)) :
    val_main_v124 (F := Ideal) x3 x5 r1 = val_main_v63 (F := Ideal) x3 x5 r1 := rfl

/-- The result at an index, from scales that are the half-precision values. -/
theorem result_apply (x0 : (⟨S12x128x3584, .bf16⟩ : BufTy).Contents (Elt Ideal)) (x1 : (⟨S18944x112x2, .i32⟩ : BufTy).Contents (Elt Ideal)) (x2 : S18944x14.Idx → BitVec 16)
    (x3 : (⟨S18944x112x2, .i32⟩ : BufTy).Contents (Elt Ideal)) (x4 : S18944x14.Idx → BitVec 16) (x5 : (⟨S256x8, .i8⟩ : BufTy).Contents (Elt Ideal)) (r0 r1 : (⟨S18944x14, .f32⟩ : BufTy).Contents (Elt Ideal))
    (h0 : ∀ i, r0 i = Ideal.ofBits .f16 (x2 i)) (h1 : ∀ i, r1 i = Ideal.ofBits .f16 (x4 i)) :
    val_main_v129 (F := Ideal) x0 x1 x3 x5 r0 r1 = target x0 x1 x2 x3 x4 x5 := by
  funext i
  have hl : ∀ k, lidx_main_v125 i k = ValueIdx.ix3 (i 0 : Fin 12) (i 1 : Fin 128) k := fun k => funext fun a => by
    match a with
    | ⟨0, _⟩ => rfl
    | ⟨1, _⟩ => rfl
    | ⟨2, _⟩ => rfl
  have hr : ∀ k, ridx_main_v125 i k = ValueIdx.ix2 (i 2 : Fin 18944) k := fun k => funext fun a => by
    match a with
    | ⟨0, _⟩ => rfl
    | ⟨1, _⟩ => rfl
  have hg : val_main_v125 (F := Ideal) x0 x1 x5 r0 i = ∑ k, x0 (ValueIdx.ix3 (i 0 : Fin 12) (i 1 : Fin 128) k) * weight x1 x2 x5 (i 2) k := by
    rw [val_main_v125_apply]
    refine Finset.sum_congr rfl fun k _ => ?_
    exact congrArg₂ (· * ·) (congrArg x0 (hl k)) ((congrArg (val_main_v63 (F := Ideal) x1 x5 r0) (hr k)).trans ((v63_read x1 x5 r0 (i 2) k).trans (by rw [h0]; rfl)))
  have hu : val_main_v126 (F := Ideal) x0 x3 x5 r1 i = ∑ k, x0 (ValueIdx.ix3 (i 0 : Fin 12) (i 1 : Fin 128) k) * weight x3 x4 x5 (i 2) k := by
    rw [val_main_v126_apply]
    refine Finset.sum_congr rfl fun k _ => ?_
    rw [up_eq]
    exact congrArg₂ (· * ·) (congrArg x0 (hl k)) ((congrArg (val_main_v63 (F := Ideal) x3 x5 r1) (hr k)).trans ((v63_read x3 x5 r1 (i 2) k).trans (by rw [h1]; rfl)))
  have h5 : val_main_call2_v5 (F := Ideal) x0 x1 x5 r0 i = Ideal.div 1 (1 + Ideal.exp (-val_main_v125 (F := Ideal) x0 x1 x5 r0 i)) := by
    rw [val_main_call2_v5_apply, val_main_call2_v4_apply, val_main_call2_v3_apply, val_main_call2_v2_apply, val_main_call2_v1_apply, val_main_call2_v0_apply,
      val_main_call2_cst_apply, val_main_call2_cst_0_apply]
    show Ideal.div (Ideal.ofBits .f32 0x3F800000#32) (Ideal.ofBits .f32 0x3F800000#32 + Ideal.exp (-_)) = _
    rw [Ideal.ofBits_one_f32]
  rw [val_main_v129_apply, val_main_v128_apply, val_main_v127_apply]
  show (val_main_v125 (F := Ideal) x0 x1 x5 r0 i * val_main_call2_v5 (F := Ideal) x0 x1 x5 r0 i) * val_main_v126 (F := Ideal) x0 x3 x5 r1 i = _
  rw [h5, gated_reference, hg, hu]
  rfl

variable (m : (ℓ : Loc nD τ sig) → Buf (Elt Ideal) ℓ) (ρ : Dev nD → PrngReg)

/-- The offset of a whole-block store is zero on both axes. -/
theorem hz : (![0, 0] : Fin 2 → Nat) = fun _ => 0 := funext fun a => by fin_cases a <;> rfl

/-- The arrays the region reads. -/
theorem V_v0 (c : Dev nD) : V m c main_v0 = bitcastToFloat (F := Ideal) .f16 (m ((c : Thread nD τ).loc main_arg2)) := by
  unfold V V0 hostOps0
  after_results_simp
  rfl

/-- Window 0 takes the whole array. -/
theorem idx_0 : ∀ t : Fin cfg0.N, ∀ a : Fin 2, win0_0.index t a = 0 := (by decide +kernel : ∀ t : Fin grid0.N, ∀ a : Fin 2, win0_0.index t a = 0)
/-- Window 2 takes the whole array. -/
theorem idx_2 : ∀ t : Fin cfg0.N, ∀ a : Fin 2, win0_2.index t a = 0 := (by decide +kernel : ∀ t : Fin grid0.N, ∀ a : Fin 2, win0_2.index t a = 0)

/-- The gate scales as the region reads them: the binary16 value of each word. -/
theorem blk_0 (c : Dev nD) (t : Fin cfg0.N) (y : S18944x14.Idx) :
    (iblk m c 0 t : S18944x14.Idx → EReal) y = Ideal.ofBits .f16 ((m ((c : Thread nD τ).loc main_arg2) : S18944x14.Idx → BitVec 16) y) := by
  show V m c main_v0 (((cfg0.win 0).blk t).view.emb y) = _
  rw [V_v0]
  refine congrArg (fun j => Ideal.ofBits .f16 ((m ((c : Thread nD τ).loc main_arg2) : S18944x14.Idx → BitVec 16) j)) (funext fun a => Fin.ext ?_)
  match a with
  | ⟨0, _⟩ => show win0_0.index t (0 : Fin 2) * 18944 + 1 * (y 0).val = (y 0).val; rw [idx_0]; omega
  | ⟨1, _⟩ => show win0_0.index t (1 : Fin 2) * 14 + 1 * (y 1).val = (y 1).val; rw [idx_0]; omega

/-- Widening changes no gate scale. -/
theorem out_2 (x0 x1 : Vec Ideal S18944x14 .f16) : out0_2 x0 x1 = x0 := by
  unfold out0_2
  rw [View.canon_unit_zero hz, View.ld_unit_zero hz]
  unfold k0_pay1
  dsimp only
  rw [shapeCast_self]
  rfl

/-- The scales the region leaves are the half-precision values of the bits. -/
theorem scales_0 (c : Dev nD) : (Value.reg_main_v2_0 m c : S18944x14.Idx → EReal)
    = fun i => Ideal.ofBits .f16 ((m ((c : Thread nD τ).loc main_arg2) : S18944x14.Idx → BitVec 16) i) := by
  unfold Value.reg_main_v2_0
  refine (dats m 0 c).arrAt_eq_of_covers 2 _ (by decide +kernel) fun t hf y => ?_
  blk_simp
  rw [after0_2, out_2]
  refine (blk_0 m c t _).trans (congrArg (fun j => Ideal.ofBits .f16 ((m ((c : Thread nD τ).loc main_arg2) : S18944x14.Idx → BitVec 16) j)) (funext fun a => Fin.ext ?_))
  match a with
  | ⟨0, _⟩ => show (y (0 : Fin 2)).val = win0_2.index t (0 : Fin 2) * 18944 + 1 * (y (0 : Fin 2)).val; rw [idx_2]; omega
  | ⟨1, _⟩ => show (y (1 : Fin 2)).val = win0_2.index t (1 : Fin 2) * 14 + 1 * (y (1 : Fin 2)).val; rw [idx_2]; omega

/-- The arrays the region reads. -/
theorem V_v1 (c : Dev nD) : V m c main_v1 = bitcastToFloat (F := Ideal) .f16 (m ((c : Thread nD τ).loc main_arg4)) := by
  unfold V V0 hostOps0
  after_results_simp
  rfl

/-- Window 1 takes the whole array. -/
theorem idx_1 : ∀ t : Fin cfg0.N, ∀ a : Fin 2, win0_1.index t a = 0 := (by decide +kernel : ∀ t : Fin grid0.N, ∀ a : Fin 2, win0_1.index t a = 0)
/-- Window 3 takes the whole array. -/
theorem idx_3 : ∀ t : Fin cfg0.N, ∀ a : Fin 2, win0_3.index t a = 0 := (by decide +kernel : ∀ t : Fin grid0.N, ∀ a : Fin 2, win0_3.index t a = 0)

/-- The up scales as the region reads them: the binary16 value of each word. -/
theorem blk_1 (c : Dev nD) (t : Fin cfg0.N) (y : S18944x14.Idx) :
    (iblk m c 1 t : S18944x14.Idx → EReal) y = Ideal.ofBits .f16 ((m ((c : Thread nD τ).loc main_arg4) : S18944x14.Idx → BitVec 16) y) := by
  show V m c main_v1 (((cfg0.win 1).blk t).view.emb y) = _
  rw [V_v1]
  refine congrArg (fun j => Ideal.ofBits .f16 ((m ((c : Thread nD τ).loc main_arg4) : S18944x14.Idx → BitVec 16) j)) (funext fun a => Fin.ext ?_)
  match a with
  | ⟨0, _⟩ => show win0_1.index t (0 : Fin 2) * 18944 + 1 * (y 0).val = (y 0).val; rw [idx_1]; omega
  | ⟨1, _⟩ => show win0_1.index t (1 : Fin 2) * 14 + 1 * (y 1).val = (y 1).val; rw [idx_1]; omega

/-- Widening changes no up scale. -/
theorem out_3 (x0 x1 : Vec Ideal S18944x14 .f16) : out0_3 x0 x1 = x1 := by
  unfold out0_3
  rw [View.canon_unit_zero hz, View.ld_unit_zero hz]
  unfold k0_pay2
  dsimp only
  rw [shapeCast_self]
  rfl

/-- The scales the region leaves are the half-precision values of the bits. -/
theorem scales_1 (c : Dev nD) : (Value.reg_main_v2_1 m c : S18944x14.Idx → EReal)
    = fun i => Ideal.ofBits .f16 ((m ((c : Thread nD τ).loc main_arg4) : S18944x14.Idx → BitVec 16) i) := by
  unfold Value.reg_main_v2_1
  refine (dats m 0 c).arrAt_eq_of_covers 3 _ (by decide +kernel) fun t hf y => ?_
  blk_simp
  rw [after0_3, out_3]
  refine (blk_1 m c t _).trans (congrArg (fun j => Ideal.ofBits .f16 ((m ((c : Thread nD τ).loc main_arg4) : S18944x14.Idx → BitVec 16) j)) (funext fun a => Fin.ext ?_))
  match a with
  | ⟨0, _⟩ => show (y (0 : Fin 2)).val = win0_3.index t (0 : Fin 2) * 18944 + 1 * (y (0 : Fin 2)).val; rw [idx_3]; omega
  | ⟨1, _⟩ => show (y (1 : Fin 2)).val = win0_3.index t (1 : Fin 2) * 14 + 1 * (y (1 : Fin 2)).val; rw [idx_3]; omega

/-- The target at this memory's arguments. -/
def goal (c : Dev nD) : S12x128x18944.Idx → EReal :=
  target (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Every run ends with the target in the result array and the arguments as launched. -/
theorem run : θ_run defs (onTc (τ := τ) (main (F := Ideal))) ⟨m, fun _ => 0, ρ⟩ (fun r => ∀ c : Dev nD,
      r.2.mem ((c.tc : Thread nD τ).loc main_v129) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans ((val_main_v129_eq (Value.exitV m c)).trans (by
      rw [Value.exit_main_arg0, Value.exit_main_arg1, Value.exit_main_arg3, Value.exit_main_arg5, Value.exit_main_v2_0, Value.exit_main_v2_1]
      exact result_apply _ _ _ _ _ _ _ _ (congrFun (scales_0 m c)) (congrFun (scales_1 m c)))), (h c).2⟩) (Value.run m ρ)

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Kernel.Frame
public import proofs.«01_k».proof.Proof.KernelIdeal.Frame
public import proofs.«01_k».proof.Proof.KernelIdeal.Result
public import proofs.«01_k».proof.Proof.ReferenceIdeal.Result
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- At equal arguments both programs end with the same result, the target. -/
theorem algebraic : Cert.algebraic_KernelIdeal_ReferenceIdeal := fun m g m' g' _ h => by
  refine ⟨fun c => Cert.KernelIdeal.Val.goal m c, Cert.KernelIdeal.Val.run m g, ?_⟩
  have e : ∀ c, Cert.ReferenceIdeal.Read.goal m' c = Cert.KernelIdeal.Val.goal m c := fun c => by
    obtain ⟨h0, h1, h2, h3, h4, h5⟩ := h c
    unfold Cert.ReferenceIdeal.Read.goal Cert.KernelIdeal.Val.goal
    rw [h0, h1, h2, h3, h4, h5]
  exact (θ_run _ _ _).mono (fun _ hr c => ⟨(hr c).1.trans (e c), (hr c).2⟩) (Cert.ReferenceIdeal.Read.run m' g')

/-- Every claim of the certificate. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, fun m ρ _ => Cert.ReferenceIdeal.Gen.frame m ρ,
  ⟨IdealRules.bf16_pair.packStatement Cert.KernelIdeal.S8x128, IdealRules.bf16_pair.statement Cert.KernelIdeal.S16x128 Cert.KernelIdeal.S8x128⟩,
  algebraic⟩

end Cert.Proof

end
